-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.BufferStatement Cert.KernelIdeal.S4x512x2x128 Cert.KernelIdeal.S4x512x1x128
  ∧ IdealRules.bf16_pair.PackStatement Cert.KernelIdeal.S16x512
  ∧ IdealRules.bf16_pair.Statement Cert.KernelIdeal.S1x16x2x128 Cert.KernelIdeal.S1x16x1x128
  ∧ IdealRules.bf16_pair.Statement Cert.KernelIdeal.S1x1x2x128 Cert.KernelIdeal.S1x1x1x128
  ∧ IdealRules.bf16_pair.Statement Cert.KernelIdeal.S2x128 Cert.KernelIdeal.S1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x8192 : Shape := ⟨3, ![128, 1, 8192]⟩
abbrev S4096x8192 : Shape := ⟨2, ![4096, 8192]⟩
abbrev S256x8192 : Shape := ⟨2, ![256, 8192]⟩
abbrev S32x8192 : Shape := ⟨2, ![32, 8192]⟩
abbrev S128x8192 : Shape := ⟨2, ![128, 8192]⟩
abbrev S4096x512 : Shape := ⟨2, ![4096, 512]⟩
abbrev S256x512 : Shape := ⟨2, ![256, 512]⟩
abbrev S32x512 : Shape := ⟨2, ![32, 512]⟩
abbrev S128x512 : Shape := ⟨2, ![128, 512]⟩
abbrev S4x512x128 : Shape := ⟨3, ![4, 512, 128]⟩
abbrev S32x1x512 : Shape := ⟨3, ![32, 1, 512]⟩
abbrev S32x2x512 : Shape := ⟨3, ![32, 2, 512]⟩
abbrev S64x512 : Shape := ⟨2, ![64, 512]⟩
abbrev S16x512 : Shape := ⟨2, ![16, 512]⟩
abbrev S1x512 : Shape := ⟨2, ![1, 512]⟩
abbrev S16x128 : Shape := ⟨2, ![16, 128]⟩
abbrev S1x16x128 : Shape := ⟨3, ![1, 16, 128]⟩
abbrev S128x128 : Shape := ⟨2, ![128, 128]⟩
abbrev S128x1x128 : Shape := ⟨3, ![128, 1, 128]⟩
abbrev S128x2x128 : Shape := ⟨3, ![128, 2, 128]⟩
abbrev S256x128 : Shape := ⟨2, ![256, 128]⟩
abbrev S1x1x128 : Shape := ⟨3, ![1, 1, 128]⟩
abbrev S1x128 : Shape := ⟨2, ![1, 128]⟩
abbrev S2x128 : Shape := ⟨2, ![2, 128]⟩
abbrev S128x256 : Shape := ⟨2, ![128, 256]⟩

abbrev nBuf : Space → Nat
  | .hbm => 10
  | .vmem => 19
  | .smem => 0
  | _ => 0

abbrev bufTy : (tb : Table) → Fin (tcTables nBuf tb) → BufTy
  | .hbm, ⟨0, _⟩ => ⟨S128x1x8192, .bf16⟩
  | .hbm, ⟨1, _⟩ => ⟨S4096x8192, .i8⟩
  | .hbm, ⟨2, _⟩ => ⟨S256x8192, .i8⟩
  | .hbm, ⟨3, _⟩ => ⟨S256x8192, .i8⟩
  | .hbm, ⟨4, _⟩ => ⟨S32x8192, .f32⟩
  | .hbm, ⟨5, _⟩ => ⟨S32x8192, .f32⟩
  | .hbm, ⟨6, _⟩ => ⟨S32x8192, .f32⟩
  | .hbm, ⟨7, _⟩ => ⟨S32x8192, .f32⟩
  | .hbm, ⟨8, _⟩ => ⟨S128x8192, .bf16⟩
  | .hbm, ⟨9, _⟩ => ⟨S128x8192, .f32⟩
  | .local _ .vmem, ⟨0, _⟩ => ⟨S128x8192, .bf16⟩
  | .local _ .vmem, ⟨1, _⟩ => ⟨S4096x512, .i8⟩
  | .local _ .vmem, ⟨2, _⟩ => ⟨S4096x512, .i8⟩
  | .local _ .vmem, ⟨3, _⟩ => ⟨S256x512, .i8⟩
  | .local _ .vmem, ⟨4, _⟩ => ⟨S256x512, .i8⟩
  | .local _ .vmem, ⟨5, _⟩ => ⟨S256x512, .i8⟩
  | .local _ .vmem, ⟨6, _⟩ => ⟨S256x512, .i8⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S128x512, .f32⟩
  | .local _ .vmem, ⟨16, _⟩ => ⟨S128x512, .f32⟩
  | .local _ .vmem, ⟨17, _⟩ => ⟨S4x512x128, .i32⟩
  | .local _ .vmem, ⟨18, _⟩ => ⟨S4x512x128, .i32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c32_i32_11 : BitVec 32 := 32#32
  let v8 : BitVec 32 := Scalar.muli v7 c32_i32_11
  let v9 : Index := Scalar.indexCast v8
  let c0_12 : Index := 0#32
  ![v9.toNat, 0]
def k0_off2 (k0_t1 : Fin k0_t1_loop.trips) (c0_i32_14 : BitVec 32) : Fin 2 → Nat :=
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c4_i32_13 : BitVec 32 := 4#32
  let v25 : BitVec 32 := Scalar.muli v7 c4_i32_13
  let v26 : BitVec 32 := Scalar.addi v25 c0_i32_14
  let v27 : Index := Scalar.indexCast v26
  let c0_15 : Index := 0#32
  ![v27.toNat, 0]
def k0_off3 (k0_t1 : Fin k0_t1_loop.trips) (c0_i32_19 : BitVec 32) : Fin 3 → Nat :=
  let c0_20 : Index := 0#32
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c64_i32 : BitVec 32 := 64#32
  let v39 : BitVec 32 := Scalar.muli v7 c64_i32
  let v40 : BitVec 32 := Scalar.addi v39 c0_i32_19
  let v41 : Index := Scalar.indexCast v40
  let c0_21 : Index := 0#32
  ![0, v41.toNat, 0]
def k0_off4 (k0_t1 : Fin k0_t1_loop.trips) (c0_i32_23 : BitVec 32) : Fin 3 → Nat :=
  let c1 : Index := 1#32
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c64_i32_22 : BitVec 32 := 64#32
  let v46 : BitVec 32 := Scalar.muli v7 c64_i32_22
  let v47 : BitVec 32 := Scalar.addi v46 c0_i32_23
  let v48 : Index := Scalar.indexCast v47
  let c0_24 : Index := 0#32
  ![1, v48.toNat, 0]
def k0_off5 (k0_t1 : Fin k0_t1_loop.trips) (c0_i32_26 : BitVec 32) : Fin 3 → Nat :=
  let c2 : Index := 2#32
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c64_i32_25 : BitVec 32 := 64#32
  let v53 : BitVec 32 := Scalar.muli v7 c64_i32_25
  let v54 : BitVec 32 := Scalar.addi v53 c0_i32_26
  let v55 : Index := Scalar.indexCast v54
  let c0_27 : Index := 0#32
  ![2, v55.toNat, 0]
def k0_off6 (k0_t1 : Fin k0_t1_loop.trips) (c0_i32_29 : BitVec 32) : Fin 3 → Nat :=
  let c3 : Index := 3#32
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c64_i32_28 : BitVec 32 := 64#32
  let v60 : BitVec 32 := Scalar.muli v7 c64_i32_28
  let v61 : BitVec 32 := Scalar.addi v60 c0_i32_29
  let v62 : Index := Scalar.indexCast v61
  let c0_30 : Index := 0#32
  ![3, v62.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_off7 (k0_t2 : Fin k0_t2_loop.trips) : Fin 2 → Nat :=
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c32_i32_11 : BitVec 32 := 32#32
  let v8 : BitVec 32 := Scalar.muli v7 c32_i32_11
  let v9 : Index := Scalar.indexCast v8
  let c0_12 : Index := 0#32
  ![v9.toNat, 0]
def k0_off8 (k0_t2 : Fin k0_t2_loop.trips) (c0_i32_14 : BitVec 32) : Fin 2 → Nat :=
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c4_i32_13 : BitVec 32 := 4#32
  let v25 : BitVec 32 := Scalar.muli v7 c4_i32_13
  let v26 : BitVec 32 := Scalar.addi v25 c0_i32_14
  let v27 : Index := Scalar.indexCast v26
  let c0_15 : Index := 0#32
  ![v27.toNat, 0]
def k0_off9 (k0_t2 : Fin k0_t2_loop.trips) (c0_i32_19 : BitVec 32) : Fin 3 → Nat :=
  let c0_20 : Index := 0#32
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c64_i32 : BitVec 32 := 64#32
  let v39 : BitVec 32 := Scalar.muli v7 c64_i32
  let v40 : BitVec 32 := Scalar.addi v39 c0_i32_19
  let v41 : Index := Scalar.indexCast v40
  let c0_21 : Index := 0#32
  ![0, v41.toNat, 0]
def k0_off10 (k0_t2 : Fin k0_t2_loop.trips) (c0_i32_23 : BitVec 32) : Fin 3 → Nat :=
  let c1 : Index := 1#32
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c64_i32_22 : BitVec 32 := 64#32
  let v46 : BitVec 32 := Scalar.muli v7 c64_i32_22
  let v47 : BitVec 32 := Scalar.addi v46 c0_i32_23
  let v48 : Index := Scalar.indexCast v47
  let c0_24 : Index := 0#32
  ![1, v48.toNat, 0]
def k0_off11 (k0_t2 : Fin k0_t2_loop.trips) (c0_i32_26 : BitVec 32) : Fin 3 → Nat :=
  let c2 : Index := 2#32
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c64_i32_25 : BitVec 32 := 64#32
  let v53 : BitVec 32 := Scalar.muli v7 c64_i32_25
  let v54 : BitVec 32 := Scalar.addi v53 c0_i32_26
  let v55 : Index := Scalar.indexCast v54
  let c0_27 : Index := 0#32
  ![2, v55.toNat, 0]
def k0_off12 (k0_t2 : Fin k0_t2_loop.trips) (c0_i32_29 : BitVec 32) : Fin 3 → Nat :=
  let c3 : Index := 3#32
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c64_i32_28 : BitVec 32 := 64#32
  let v60 : BitVec 32 := Scalar.muli v7 c64_i32_28
  let v61 : BitVec 32 := Scalar.addi v60 c0_i32_29
  let v62 : Index := Scalar.indexCast v61
  let c0_30 : Index := 0#32
  ![3, v62.toNat, 0]
@[reducible] def k0_t3_loop : Scf.Loop 32 :=
  let c0_i32_5 : BitVec 32 := 0#32
  let c32_i32 : BitVec 32 := 32#32
  let v3 : BitVec 32 := Scalar.addi c0_i32_5 c32_i32
  let c1_i32_6 : BitVec 32 := 1#32
  ⟨c0_i32_5, v3, c1_i32_6⟩
def k0_off13 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c128_i32 : BitVec 32 := 128#32
  let v6 : BitVec 32 := Scalar.muli arg12 c128_i32
  let v7 : Index := Scalar.indexCast v6
  let c0_9 : Index := 0#32
  ![v7.toNat, 0]
def k0_off14 (k0_t3 : Fin k0_t3_loop.trips) (c0_i32_10 : BitVec 32) : Fin 3 → Nat :=
  let c0_11 : Index := 0#32
  let c0_i32_5 : BitVec 32 := 0#32
  let c1_i32_6 : BitVec 32 := 1#32
  let arg12 : BitVec 32 := Scf.iv c0_i32_5 c1_i32_6 k0_t3
  let c16_i32 : BitVec 32 := 16#32
  let v19 : BitVec 32 := Scalar.muli arg12 c16_i32
  let v20 : BitVec 32 := Scalar.addi v19 c0_i32_10
  let v21 : Index := Scalar.indexCast v20
  let c0_12 : Index := 0#32
  ![0, v21.toNat, 0]
def k0_off15 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c128_i32_126 : BitVec 32 := 128#32
  let v356 : BitVec 32 := Scalar.muli arg12 c128_i32_126
  let v357 : Index := Scalar.indexCast v356
  let c128 : Index := 128#32
  ![v357.toNat, 128]
def k0_off16 (k0_t3 : Fin k0_t3_loop.trips) (c0_i32_130 : BitVec 32) : Fin 3 → Nat :=
  let c1 : Index := 1#32
  let c0_i32_5 : BitVec 32 := 0#32
  let c1_i32_6 : BitVec 32 := 1#32
  let arg12 : BitVec 32 := Scf.iv c0_i32_5 c1_i32_6 k0_t3
  let c16_i32_129 : BitVec 32 := 16#32
  let v369 : BitVec 32 := Scalar.muli arg12 c16_i32_129
  let v370 : BitVec 32 := Scalar.addi v369 c0_i32_130
  let v371 : Index := Scalar.indexCast v370
  let c0_131 : Index := 0#32
  ![1, v371.toNat, 0]
def k0_off17 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c128_i32_256 : BitVec 32 := 128#32
  let v706 : BitVec 32 := Scalar.muli arg12 c128_i32_256
  let v707 : Index := Scalar.indexCast v706
  let c256 : Index := 256#32
  ![v707.toNat, 256]
def k0_off18 (k0_t3 : Fin k0_t3_loop.trips) (c0_i32_260 : BitVec 32) : Fin 3 → Nat :=
  let c2 : Index := 2#32
  let c0_i32_5 : BitVec 32 := 0#32
  let c1_i32_6 : BitVec 32 := 1#32
  let arg12 : BitVec 32 := Scf.iv c0_i32_5 c1_i32_6 k0_t3
  let c16_i32_259 : BitVec 32 := 16#32
  let v719 : BitVec 32 := Scalar.muli arg12 c16_i32_259
  let v720 : BitVec 32 := Scalar.addi v719 c0_i32_260
  let v721 : Index := Scalar.indexCast v720
  let c0_261 : Index := 0#32
  ![2, v721.toNat, 0]
def k0_off19 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c128_i32_386 : BitVec 32 := 128#32
  let v1056 : BitVec 32 := Scalar.muli arg12 c128_i32_386
  let v1057 : Index := Scalar.indexCast v1056
  let c384 : Index := 384#32
  ![v1057.toNat, 384]
def k0_off20 (k0_t3 : Fin k0_t3_loop.trips) (c0_i32_390 : BitVec 32) : Fin 3 → Nat :=
  let c3 : Index := 3#32
  let c0_i32_5 : BitVec 32 := 0#32
  let c1_i32_6 : BitVec 32 := 1#32
  let arg12 : BitVec 32 := Scf.iv c0_i32_5 c1_i32_6 k0_t3
  let c16_i32_389 : BitVec 32 := 16#32
  let v1069 : BitVec 32 := Scalar.muli arg12 c16_i32_389
  let v1070 : BitVec 32 := Scalar.addi v1069 c0_i32_390
  let v1071 : Index := Scalar.indexCast v1070
  let c0_391 : Index := 0#32
  ![3, v1071.toNat, 0]
def k0_mult1 (k0_t3 : Fin k0_t3_loop.trips) : BitVec 32 :=
  let c0_i32_5 : BitVec 32 := 0#32
  let c1_i32_6 : BitVec 32 := 1#32
  let arg12 : BitVec 32 := Scf.iv c0_i32_5 c1_i32_6 k0_t3
  let c256_i32 : BitVec 32 := 256#32
  let v1407 : BitVec 32 := Scalar.muli arg12 c256_i32
  v1407
def k0_off21 (k0_t3 : Fin k0_t3_loop.trips) : Fin 2 → Nat :=
  let c0_516 : Index := 0#32
  let c0_i32_5 : BitVec 32 := 0#32
  let c1_i32_6 : BitVec 32 := 1#32
  let arg12 : BitVec 32 := Scf.iv c0_i32_5 c1_i32_6 k0_t3
  let c256_i32 : BitVec 32 := 256#32
  let v1407 : BitVec 32 := Scalar.muli arg12 c256_i32
  let v1408 : BitVec 32 := v1407
  let v1409 : Index := Scalar.indexCast v1408
  ![0, v1409.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S128x1x8192 : Shape := ⟨3, ![128, 1, 8192]⟩
abbrev S4096x8192 : Shape := ⟨2, ![4096, 8192]⟩
abbrev S256x8192 : Shape := ⟨2, ![256, 8192]⟩
abbrev S32x8192 : Shape := ⟨2, ![32, 8192]⟩
abbrev S128x8192 : Shape := ⟨2, ![128, 8192]⟩
abbrev S4096x512 : Shape := ⟨2, ![4096, 512]⟩
abbrev S256x512 : Shape := ⟨2, ![256, 512]⟩
abbrev S32x512 : Shape := ⟨2, ![32, 512]⟩
abbrev S128x512 : Shape := ⟨2, ![128, 512]⟩
abbrev S4x512x128 : Shape := ⟨3, ![4, 512, 128]⟩
abbrev S4x512x2x128 : Shape := ⟨4, ![4, 512, 2, 128]⟩
abbrev S4x512x1x128 : Shape := ⟨4, ![4, 512, 1, 128]⟩
abbrev S32x1x512 : Shape := ⟨3, ![32, 1, 512]⟩
abbrev S32x2x512 : Shape := ⟨3, ![32, 2, 512]⟩
abbrev S64x512 : Shape := ⟨2, ![64, 512]⟩
abbrev S16x512 : Shape := ⟨2, ![16, 512]⟩
abbrev S1x512 : Shape := ⟨2, ![1, 512]⟩
abbrev S16x128 : Shape := ⟨2, ![16, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S128x128 : Shape := ⟨2, ![128, 128]⟩
abbrev S128x1x128 : Shape := ⟨3, ![128, 1, 128]⟩
abbrev S128x2x128 : Shape := ⟨3, ![128, 2, 128]⟩
abbrev S256x128 : Shape := ⟨2, ![256, 128]⟩
abbrev S1x1x128 : Shape := ⟨3, ![1, 1, 128]⟩
abbrev S1x1x2x128 : Shape := ⟨4, ![1, 1, 2, 128]⟩
abbrev S1x1x1x128 : Shape := ⟨4, ![1, 1, 1, 128]⟩
abbrev S1x128 : Shape := ⟨2, ![1, 128]⟩
abbrev S2x128 : Shape := ⟨2, ![2, 128]⟩
abbrev S128x256 : Shape := ⟨2, ![128, 256]⟩

abbrev nBuf : Space → Nat
  | .hbm => 10
  | .vmem => 19
  | .smem => 0
  | _ => 0

abbrev bufTy : (tb : Table) → Fin (tcTables nBuf tb) → BufTy
  | .hbm, ⟨0, _⟩ => ⟨S128x1x8192, .bf16⟩
  | .hbm, ⟨1, _⟩ => ⟨S4096x8192, .i8⟩
  | .hbm, ⟨2, _⟩ => ⟨S256x8192, .i8⟩
  | .hbm, ⟨3, _⟩ => ⟨S256x8192, .i8⟩
  | .hbm, ⟨4, _⟩ => ⟨S32x8192, .f32⟩
  | .hbm, ⟨5, _⟩ => ⟨S32x8192, .f32⟩
  | .hbm, ⟨6, _⟩ => ⟨S32x8192, .f32⟩
  | .hbm, ⟨7, _⟩ => ⟨S32x8192, .f32⟩
  | .hbm, ⟨8, _⟩ => ⟨S128x8192, .bf16⟩
  | .hbm, ⟨9, _⟩ => ⟨S128x8192, .f32⟩
  | .local _ .vmem, ⟨0, _⟩ => ⟨S128x8192, .bf16⟩
  | .local _ .vmem, ⟨1, _⟩ => ⟨S4096x512, .i8⟩
  | .local _ .vmem, ⟨2, _⟩ => ⟨S4096x512, .i8⟩
  | .local _ .vmem, ⟨3, _⟩ => ⟨S256x512, .i8⟩
  | .local _ .vmem, ⟨4, _⟩ => ⟨S256x512, .i8⟩
  | .local _ .vmem, ⟨5, _⟩ => ⟨S256x512, .i8⟩
  | .local _ .vmem, ⟨6, _⟩ => ⟨S256x512, .i8⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S128x512, .f32⟩
  | .local _ .vmem, ⟨16, _⟩ => ⟨S128x512, .f32⟩
  | .local _ .vmem, ⟨17, _⟩ => ⟨S4x512x2x128, .bf16⟩
  | .local _ .vmem, ⟨18, _⟩ => ⟨S4x512x2x128, .bf16⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c32_i32_11 : BitVec 32 := 32#32
  let v8 : BitVec 32 := Scalar.muli v7 c32_i32_11
  let v9 : Index := Scalar.indexCast v8
  let c0_12 : Index := 0#32
  ![v9.toNat, 0]
def k0_off2 (k0_t1 : Fin k0_t1_loop.trips) (c0_i32_14 : BitVec 32) : Fin 2 → Nat :=
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c4_i32_13 : BitVec 32 := 4#32
  let v25 : BitVec 32 := Scalar.muli v7 c4_i32_13
  let v26 : BitVec 32 := Scalar.addi v25 c0_i32_14
  let v27 : Index := Scalar.indexCast v26
  let c0_15 : Index := 0#32
  ![v27.toNat, 0]
def k0_off3 (k0_t1 : Fin k0_t1_loop.trips) (c0_i32_19 : BitVec 32) : Fin 4 → Nat :=
  let c0_20 : Index := 0#32
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c64_i32 : BitVec 32 := 64#32
  let v39 : BitVec 32 := Scalar.muli v7 c64_i32
  let v40 : BitVec 32 := Scalar.addi v39 c0_i32_19
  let v41 : Index := Scalar.indexCast v40
  let c0_21 : Index := 0#32
  ![0, v41.toNat, 0, 0]
def k0_off4 (k0_t1 : Fin k0_t1_loop.trips) (c0_i32_23 : BitVec 32) : Fin 4 → Nat :=
  let c1 : Index := 1#32
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c64_i32_22 : BitVec 32 := 64#32
  let v46 : BitVec 32 := Scalar.muli v7 c64_i32_22
  let v47 : BitVec 32 := Scalar.addi v46 c0_i32_23
  let v48 : Index := Scalar.indexCast v47
  let c0_24 : Index := 0#32
  ![1, v48.toNat, 0, 0]
def k0_off5 (k0_t1 : Fin k0_t1_loop.trips) (c0_i32_26 : BitVec 32) : Fin 4 → Nat :=
  let c2 : Index := 2#32
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c64_i32_25 : BitVec 32 := 64#32
  let v53 : BitVec 32 := Scalar.muli v7 c64_i32_25
  let v54 : BitVec 32 := Scalar.addi v53 c0_i32_26
  let v55 : Index := Scalar.indexCast v54
  let c0_27 : Index := 0#32
  ![2, v55.toNat, 0, 0]
def k0_off6 (k0_t1 : Fin k0_t1_loop.trips) (c0_i32_29 : BitVec 32) : Fin 4 → Nat :=
  let c3 : Index := 3#32
  let c0_i32_10 : BitVec 32 := 0#32
  let c0_i32 : BitVec 32 := 0#32
  let c1_i32 : BitVec 32 := 1#32
  let arg12 : BitVec 32 := Scf.iv c0_i32 c1_i32 k0_t1
  let c1_i32_9 : BitVec 32 := 1#32
  let v6 : BitVec 32 := Scalar.muli arg12 c1_i32_9
  let v7 : BitVec 32 := Scalar.addi c0_i32_10 v6
  let c64_i32_28 : BitVec 32 := 64#32
  let v60 : BitVec 32 := Scalar.muli v7 c64_i32_28
  let v61 : BitVec 32 := Scalar.addi v60 c0_i32_29
  let v62 : Index := Scalar.indexCast v61
  let c0_30 : Index := 0#32
  ![3, v62.toNat, 0, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_off7 (k0_t2 : Fin k0_t2_loop.trips) : Fin 2 → Nat :=
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c32_i32_11 : BitVec 32 := 32#32
  let v8 : BitVec 32 := Scalar.muli v7 c32_i32_11
  let v9 : Index := Scalar.indexCast v8
  let c0_12 : Index := 0#32
  ![v9.toNat, 0]
def k0_off8 (k0_t2 : Fin k0_t2_loop.trips) (c0_i32_14 : BitVec 32) : Fin 2 → Nat :=
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c4_i32_13 : BitVec 32 := 4#32
  let v25 : BitVec 32 := Scalar.muli v7 c4_i32_13
  let v26 : BitVec 32 := Scalar.addi v25 c0_i32_14
  let v27 : Index := Scalar.indexCast v26
  let c0_15 : Index := 0#32
  ![v27.toNat, 0]
def k0_off9 (k0_t2 : Fin k0_t2_loop.trips) (c0_i32_19 : BitVec 32) : Fin 4 → Nat :=
  let c0_20 : Index := 0#32
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c64_i32 : BitVec 32 := 64#32
  let v39 : BitVec 32 := Scalar.muli v7 c64_i32
  let v40 : BitVec 32 := Scalar.addi v39 c0_i32_19
  let v41 : Index := Scalar.indexCast v40
  let c0_21 : Index := 0#32
  ![0, v41.toNat, 0, 0]
def k0_off10 (k0_t2 : Fin k0_t2_loop.trips) (c0_i32_23 : BitVec 32) : Fin 4 → Nat :=
  let c1 : Index := 1#32
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c64_i32_22 : BitVec 32 := 64#32
  let v46 : BitVec 32 := Scalar.muli v7 c64_i32_22
  let v47 : BitVec 32 := Scalar.addi v46 c0_i32_23
  let v48 : Index := Scalar.indexCast v47
  let c0_24 : Index := 0#32
  ![1, v48.toNat, 0, 0]
def k0_off11 (k0_t2 : Fin k0_t2_loop.trips) (c0_i32_26 : BitVec 32) : Fin 4 → Nat :=
  let c2 : Index := 2#32
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c64_i32_25 : BitVec 32 := 64#32
  let v53 : BitVec 32 := Scalar.muli v7 c64_i32_25
  let v54 : BitVec 32 := Scalar.addi v53 c0_i32_26
  let v55 : Index := Scalar.indexCast v54
  let c0_27 : Index := 0#32
  ![2, v55.toNat, 0, 0]
def k0_off12 (k0_t2 : Fin k0_t2_loop.trips) (c0_i32_29 : BitVec 32) : Fin 4 → Nat :=
  let c3 : Index := 3#32
  let c0_i32_10 : BitVec 32 := 0#32
  let c0_i32_1 : BitVec 32 := 0#32
  let c1_i32_3 : BitVec 32 := 1#32
  let arg12 : BitVec 32 := Scf.iv c0_i32_1 c1_i32_3 k0_t2
  let c1_i32_9 : BitVec 32 := 1#32
  let v6 : BitVec 32 := Scalar.muli arg12 c1_i32_9
  let v7 : BitVec 32 := Scalar.addi c0_i32_10 v6
  let c64_i32_28 : BitVec 32 := 64#32
  let v60 : BitVec 32 := Scalar.muli v7 c64_i32_28
  let v61 : BitVec 32 := Scalar.addi v60 c0_i32_29
  let v62 : Index := Scalar.indexCast v61
  let c0_30 : Index := 0#32
  ![3, v62.toNat, 0, 0]
@[reducible] def k0_t3_loop : Scf.Loop 32 :=
  let c0_i32_5 : BitVec 32 := 0#32
  let c32_i32 : BitVec 32 := 32#32
  let v3 : BitVec 32 := Scalar.addi c0_i32_5 c32_i32
  let c1_i32_6 : BitVec 32 := 1#32
  ⟨c0_i32_5, v3, c1_i32_6⟩
def k0_off13 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c128_i32 : BitVec 32 := 128#32
  let v6 : BitVec 32 := Scalar.muli arg12 c128_i32
  let v7 : Index := Scalar.indexCast v6
  let c0_9 : Index := 0#32
  ![v7.toNat, 0]
def k0_off14 (k0_t3 : Fin k0_t3_loop.trips) (c0_i32_10 : BitVec 32) : Fin 4 → Nat :=
  let c0_11 : Index := 0#32
  let c0_i32_5 : BitVec 32 := 0#32
  let c1_i32_6 : BitVec 32 := 1#32
  let arg12 : BitVec 32 := Scf.iv c0_i32_5 c1_i32_6 k0_t3
  let c16_i32 : BitVec 32 := 16#32
  let v19 : BitVec 32 := Scalar.muli arg12 c16_i32
  let v20 : BitVec 32 := Scalar.addi v19 c0_i32_10
  let v21 : Index := Scalar.indexCast v20
  let c0_12 : Index := 0#32
  ![0, v21.toNat, 0, 0]
def k0_off15 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c128_i32_126 : BitVec 32 := 128#32
  let v356 : BitVec 32 := Scalar.muli arg12 c128_i32_126
  let v357 : Index := Scalar.indexCast v356
  let c128 : Index := 128#32
  ![v357.toNat, 128]
def k0_off16 (k0_t3 : Fin k0_t3_loop.trips) (c0_i32_130 : BitVec 32) : Fin 4 → Nat :=
  let c1 : Index := 1#32
  let c0_i32_5 : BitVec 32 := 0#32
  let c1_i32_6 : BitVec 32 := 1#32
  let arg12 : BitVec 32 := Scf.iv c0_i32_5 c1_i32_6 k0_t3
  let c16_i32_129 : BitVec 32 := 16#32
  let v369 : BitVec 32 := Scalar.muli arg12 c16_i32_129
  let v370 : BitVec 32 := Scalar.addi v369 c0_i32_130
  let v371 : Index := Scalar.indexCast v370
  let c0_131 : Index := 0#32
  ![1, v371.toNat, 0, 0]
def k0_off17 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c128_i32_256 : BitVec 32 := 128#32
  let v706 : BitVec 32 := Scalar.muli arg12 c128_i32_256
  let v707 : Index := Scalar.indexCast v706
  let c256 : Index := 256#32
  ![v707.toNat, 256]
def k0_off18 (k0_t3 : Fin k0_t3_loop.trips) (c0_i32_260 : BitVec 32) : Fin 4 → Nat :=
  let c2 : Index := 2#32
  let c0_i32_5 : BitVec 32 := 0#32
  let c1_i32_6 : BitVec 32 := 1#32
  let arg12 : BitVec 32 := Scf.iv c0_i32_5 c1_i32_6 k0_t3
  let c16_i32_259 : BitVec 32 := 16#32
  let v719 : BitVec 32 := Scalar.muli arg12 c16_i32_259
  let v720 : BitVec 32 := Scalar.addi v719 c0_i32_260
  let v721 : Index := Scalar.indexCast v720
  let c0_261 : Index := 0#32
  ![2, v721.toNat, 0, 0]
def k0_off19 (k0_t3 : Fin k0_t3_loop.trips) : Fin 2 → Nat :=
  let c0_i32_5 : BitVec 32 := 0#32
  let c1_i32_6 : BitVec 32 := 1#32
  let arg12 : BitVec 32 := Scf.iv c0_i32_5 c1_i32_6 k0_t3
  let c128_i32_386 : BitVec 32 := 128#32
  let v1056 : BitVec 32 := Scalar.muli arg12 c128_i32_386
  let v1057 : Index := Scalar.indexCast v1056
  let c384 : Index := 384#32
  ![v1057.toNat, 384]
def k0_off20 (k0_t3 : Fin k0_t3_loop.trips) (c0_i32_390 : BitVec 32) : Fin 4 → Nat :=
  let c3 : Index := 3#32
  let c0_i32_5 : BitVec 32 := 0#32
  let c1_i32_6 : BitVec 32 := 1#32
  let arg12 : BitVec 32 := Scf.iv c0_i32_5 c1_i32_6 k0_t3
  let c16_i32_389 : BitVec 32 := 16#32
  let v1069 : BitVec 32 := Scalar.muli arg12 c16_i32_389
  let v1070 : BitVec 32 := Scalar.addi v1069 c0_i32_390
  let v1071 : Index := Scalar.indexCast v1070
  let c0_391 : Index := 0#32
  ![3, v1071.toNat, 0, 0]
def k0_mult1 (k0_t3 : Fin k0_t3_loop.trips) : BitVec 32 :=
  let c0_i32_5 : BitVec 32 := 0#32
  let c1_i32_6 : BitVec 32 := 1#32
  let arg12 : BitVec 32 := Scf.iv c0_i32_5 c1_i32_6 k0_t3
  let c256_i32 : BitVec 32 := 256#32
  let v1407 : BitVec 32 := Scalar.muli arg12 c256_i32
  v1407
def k0_off21 (k0_t3 : Fin k0_t3_loop.trips) : Fin 2 → Nat :=
  let c0_516 : Index := 0#32
  let c0_i32_5 : BitVec 32 := 0#32
  let c1_i32_6 : BitVec 32 := 1#32
  let arg12 : BitVec 32 := Scf.iv c0_i32_5 c1_i32_6 k0_t3
  let c256_i32 : BitVec 32 := 256#32
  let v1407 : BitVec 32 := Scalar.muli arg12 c256_i32
  let v1408 : BitVec 32 := v1407
  let v1409 : Index := Scalar.indexCast v1408
  ![0, v1409.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S128x1x8192 : Shape := ⟨3, ![128, 1, 8192]⟩
abbrev S4096x8192 : Shape := ⟨2, ![4096, 8192]⟩
abbrev S256x8192 : Shape := ⟨2, ![256, 8192]⟩
abbrev S32x8192 : Shape := ⟨2, ![32, 8192]⟩
abbrev S_ : Shape := ⟨0, ![]⟩
abbrev S256x1x8192 : Shape := ⟨3, ![256, 1, 8192]⟩
abbrev S256x2x8192 : Shape := ⟨3, ![256, 2, 8192]⟩
abbrev S32x16x8192 : Shape := ⟨3, ![32, 16, 8192]⟩
abbrev S32x1x8192 : Shape := ⟨3, ![32, 1, 8192]⟩
abbrev S512x8192 : Shape := ⟨2, ![512, 8192]⟩
abbrev S512x8x8192 : Shape := ⟨3, ![512, 8, 8192]⟩
abbrev S512x1x8192 : Shape := ⟨3, ![512, 1, 8192]⟩
abbrev S128x1x4096 : Shape := ⟨3, ![128, 1, 4096]⟩
abbrev S128x8192 : Shape := ⟨2, ![128, 8192]⟩

abbrev nBuf : Space → Nat
  | .hbm => 85
  | .vmem => 0
  | .smem => 0
  | _ => 0

abbrev bufTy : (tb : Table) → Fin (tcTables nBuf tb) → BufTy
  | .hbm, ⟨0, _⟩ => ⟨S128x1x8192, .bf16⟩
  | .hbm, ⟨1, _⟩ => ⟨S4096x8192, .i8⟩
  | .hbm, ⟨2, _⟩ => ⟨S256x8192, .i8⟩
  | .hbm, ⟨3, _⟩ => ⟨S256x8192, .i8⟩
  | .hbm, ⟨4, _⟩ => ⟨S32x8192, .f32⟩
  | .hbm, ⟨5, _⟩ => ⟨S32x8192, .f32⟩
  | .hbm, ⟨6, _⟩ => ⟨S32x8192, .f32⟩
  | .hbm, ⟨7, _⟩ => ⟨S32x8192, .f32⟩
  | .hbm, ⟨8, _⟩ => ⟨S256x8192, .i32⟩
  | .hbm, ⟨9, _⟩ => ⟨S_, .i32⟩
  | .hbm, ⟨10, _⟩ => ⟨S256x8192, .i32⟩
  | .hbm, ⟨11, _⟩ => ⟨S256x8192, .i32⟩
  | .hbm, ⟨12, _⟩ => ⟨S_, .i32⟩
  | .hbm, ⟨13, _⟩ => ⟨S256x8192, .i32⟩
  | .hbm, ⟨14, _⟩ => ⟨S256x8192, .i32⟩
  | .hbm, ⟨15, _⟩ => ⟨S_, .i32⟩
  | .hbm, ⟨16, _⟩ => ⟨S256x8192, .i32⟩
  | .hbm, ⟨17, _⟩ => ⟨S256x8192, .i32⟩
  | .hbm, ⟨18, _⟩ => ⟨S256x1x8192, .i32⟩
  | .hbm, ⟨19, _⟩ => ⟨S256x1x8192, .i32⟩
  | .hbm, ⟨20, _⟩ => ⟨S256x2x8192, .i32⟩
  | .hbm, ⟨21, _⟩ => ⟨S256x2x8192, .f32⟩
  | .hbm, ⟨22, _⟩ => ⟨S32x16x8192, .f32⟩
  | .hbm, ⟨23, _⟩ => ⟨S32x1x8192, .f32⟩
  | .hbm, ⟨24, _⟩ => ⟨S32x16x8192, .f32⟩
  | .hbm, ⟨25, _⟩ => ⟨S32x16x8192, .f32⟩
  | .hbm, ⟨26, _⟩ => ⟨S32x1x8192, .f32⟩
  | .hbm, ⟨27, _⟩ => ⟨S32x16x8192, .f32⟩
  | .hbm, ⟨28, _⟩ => ⟨S32x16x8192, .f32⟩
  | .hbm, ⟨29, _⟩ => ⟨S512x8192, .f32⟩
  | .hbm, ⟨30, _⟩ => ⟨S512x8192, .bf16⟩
  | .hbm, ⟨31, _⟩ => ⟨S256x8192, .i32⟩
  | .hbm, ⟨32, _⟩ => ⟨S_, .i32⟩
  | .hbm, ⟨33, _⟩ => ⟨S256x8192, .i32⟩
  | .hbm, ⟨34, _⟩ => ⟨S256x8192, .i32⟩
  | .hbm, ⟨35, _⟩ => ⟨S_, .i32⟩
  | .hbm, ⟨36, _⟩ => ⟨S256x8192, .i32⟩
  | .hbm, ⟨37, _⟩ => ⟨S256x8192, .i32⟩
  | .hbm, ⟨38, _⟩ => ⟨S_, .i32⟩
  | .hbm, ⟨39, _⟩ => ⟨S256x8192, .i32⟩
  | .hbm, ⟨40, _⟩ => ⟨S256x8192, .i32⟩
  | .hbm, ⟨41, _⟩ => ⟨S256x1x8192, .i32⟩
  | .hbm, ⟨42, _⟩ => ⟨S256x1x8192, .i32⟩
  | .hbm, ⟨43, _⟩ => ⟨S256x2x8192, .i32⟩
  | .hbm, ⟨44, _⟩ => ⟨S256x2x8192, .f32⟩
  | .hbm, ⟨45, _⟩ => ⟨S32x16x8192, .f32⟩
  | .hbm, ⟨46, _⟩ => ⟨S32x1x8192, .f32⟩
  | .hbm, ⟨47, _⟩ => ⟨S32x16x8192, .f32⟩
  | .hbm, ⟨48, _⟩ => ⟨S32x16x8192, .f32⟩
  | .hbm, ⟨49, _⟩ => ⟨S32x1x8192, .f32⟩
  | .hbm, ⟨50, _⟩ => ⟨S32x16x8192, .f32⟩
  | .hbm, ⟨51, _⟩ => ⟨S32x16x8192, .f32⟩
  | .hbm, ⟨52, _⟩ => ⟨S512x8192, .f32⟩
  | .hbm, ⟨53, _⟩ => ⟨S512x8192, .bf16⟩
  | .hbm, ⟨54, _⟩ => ⟨S4096x8192, .i32⟩
  | .hbm, ⟨55, _⟩ => ⟨S_, .i32⟩
  | .hbm, ⟨56, _⟩ => ⟨S4096x8192, .i32⟩
  | .hbm, ⟨57, _⟩ => ⟨S4096x8192, .i32⟩
  | .hbm, ⟨58, _⟩ => ⟨S4096x8192, .bf16⟩
  | .hbm, ⟨59, _⟩ => ⟨S512x8x8192, .bf16⟩
  | .hbm, ⟨60, _⟩ => ⟨S512x1x8192, .bf16⟩
  | .hbm, ⟨61, _⟩ => ⟨S512x8x8192, .bf16⟩
  | .hbm, ⟨62, _⟩ => ⟨S512x8x8192, .bf16⟩
  | .hbm, ⟨63, _⟩ => ⟨S512x1x8192, .bf16⟩
  | .hbm, ⟨64, _⟩ => ⟨S512x8x8192, .bf16⟩
  | .hbm, ⟨65, _⟩ => ⟨S512x8x8192, .bf16⟩
  | .hbm, ⟨66, _⟩ => ⟨S4096x8192, .bf16⟩
  | .hbm, ⟨67, _⟩ => ⟨S_, .i32⟩
  | .hbm, ⟨68, _⟩ => ⟨S4096x8192, .i32⟩
  | .hbm, ⟨69, _⟩ => ⟨S4096x8192, .i32⟩
  | .hbm, ⟨70, _⟩ => ⟨S4096x8192, .bf16⟩
  | .hbm, ⟨71, _⟩ => ⟨S512x8x8192, .bf16⟩
  | .hbm, ⟨72, _⟩ => ⟨S512x1x8192, .bf16⟩
  | .hbm, ⟨73, _⟩ => ⟨S512x8x8192, .bf16⟩
  | .hbm, ⟨74, _⟩ => ⟨S512x8x8192, .bf16⟩
  | .hbm, ⟨75, _⟩ => ⟨S512x1x8192, .bf16⟩
  | .hbm, ⟨76, _⟩ => ⟨S512x8x8192, .bf16⟩
  | .hbm, ⟨77, _⟩ => ⟨S512x8x8192, .bf16⟩
  | .hbm, ⟨78, _⟩ => ⟨S4096x8192, .bf16⟩
  | .hbm, ⟨79, _⟩ => ⟨S128x1x4096, .bf16⟩
  | .hbm, ⟨80, _⟩ => ⟨S128x1x8192, .f32⟩
  | .hbm, ⟨81, _⟩ => ⟨S128x1x4096, .bf16⟩
  | .hbm, ⟨82, _⟩ => ⟨S128x1x8192, .f32⟩
  | .hbm, ⟨83, _⟩ => ⟨S128x1x8192, .f32⟩
  | .hbm, ⟨84, _⟩ => ⟨S128x8192, .f32⟩
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩

abbrev nD : Nat := 1
abbrev τ : Topo := Topo.v7x

variable {F : FTy → Type} [FloatOps F]
-- ==== Proof.Frame.lean ====
/- The frame of the kernel itself, over any floats: every execution ends, leaves the arguments as they were and every semaphore counter at zero.
   Of the output nothing is said here. -/
module

public import proofs.«01_k».proof.Proof.Gen.Kernel.Frame.Runs
public import Idealize.ShloMosaic.Lib.Claim

@[expose] public section

set_option maxRecDepth 16384

noncomputable section

namespace Cert.Proof.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel
open Cert.Kernel.Gen hiding frame_of

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: from the inputs' blocks at their contents, the output's block and the scratch buffers at anything, the body runs to the end with
    the inputs' blocks as they were and the output's block and the scratch buffers at some contents. -/
theorem body_run (c : Dev nD) (i : grid0.Coords) (arg1 : Memref sig .tc .vmem S128x8192 .bf16) (harg1 : arg1.IsWhole) (arg2 : Memref sig .tc .vmem S4096x512 .i8) (harg2 : arg2.IsWhole) (arg3 : Memref sig .tc .vmem S256x512 .i8) (harg3 : arg3.IsWhole) (arg4 : Memref sig .tc .vmem S256x512 .i8) (harg4 : arg4.IsWhole) (arg5 : Memref sig .tc .vmem S32x512 .f32) (harg5 : arg5.IsWhole) (arg6 : Memref sig .tc .vmem S32x512 .f32) (harg6 : arg6.IsWhole) (arg7 : Memref sig .tc .vmem S32x512 .f32) (harg7 : arg7.IsWhole) (arg8 : Memref sig .tc .vmem S32x512 .f32) (harg8 : arg8.IsWhole) (arg9 : Memref sig .tc .vmem S128x512 .f32) (harg9 : arg9.IsWhole) (arg10 : Memref sig .tc .vmem S4x512x128 .i32) (harg10 : arg10.IsWhole) (arg11 : Memref sig .tc .vmem S4x512x128 .i32) (harg11 : arg11.IsWhole)
    (x0 : Vec F S128x8192 .bf16) (x1 : Vec F S4096x512 .i8) (x2 : Vec F S256x512 .i8) (x3 : Vec F S256x512 .i8) (x4 : Vec F S32x512 .f32) (x5 : Vec F S32x512 .f32) (x6 : Vec F S32x512 .f32) (x7 : Vec F S32x512 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_dense i arg1 harg1 arg2 harg2 arg3 harg3 arg4 harg4 arg5 harg5 arg6 harg6 arg7 harg7 arg8 harg8 arg9 harg9 arg10 harg10 arg11 harg11) K := by
    intro E K
    simp only [cc0_dense_eq_skeleton]; unfold cc0_dense_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

/-! ## The pipeline's proof data -/

/-- The output's window, 8: a frame says nothing of its contents. -/
def forgets0 : Fin 9 → Bool := fun w => w.val == 8

/-- The proof data of the one pipeline on core `c`: the arrays as the region finds them (`V`); after the body at
    point `t` each input's buffer at its block and the output, of which nothing is said, at `Dat.unnamed`; the invariant that of
    a pipeline without communication (`Pipeline.ΦA`); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- Every execution ends as `run_main` says, with every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters, every weakly fair execution of @main terminates, and every final state has every input array of
    the pipeline unchanged and every other unscoped buffer as the region found it. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that leaves the pipeline's inputs and the other buffers as they were leaves the arguments as they were. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The kernel's frame: every execution ends, with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Proof.Frame

end
-- ==== Proof.Math.lean ====
/- The arithmetic of the two programs without any array: the codes two bytes hold, one dequantised weight, and the two orders in which
   the products of a row and a column are summed. -/
module

public import Idealize.ShloMosaic.Lib.Pointwise
public import Idealize.ShloMosaic.Lib.ValueIdx

@[expose] public section

noncomputable section

namespace Cert.Proof.Math

open Idealize.ShloMosaic

/-- A 32-bit integer as a number. -/
def num (w : BitVec 32) : EReal := ((w.toInt : ℝ) : EReal)

/-- The four-bit code a byte holds for row `r`: its low half at an even row, its high half at an odd one. -/
def code4 (b : BitVec 8) (r : ℕ) : EReal :=
  num (if r % 2 = 1 then (b.setWidth 32).sshiftRight 4 else b.setWidth 32 &&& 15#32)

/-- The three-bit code a byte holds for group `r`: in its low half at an even group, in its high half at an odd one. -/
def code3 (b : BitVec 8) (r : ℕ) : EReal :=
  num (if r % 2 = 1 then (b.setWidth 32).sshiftRight 4 &&& 7#32 else b.setWidth 32 &&& 7#32)

theorem code3_congr (b : BitVec 8) {r r' : ℕ} (h : r % 2 = r' % 2) : code3 b r = code3 b r' := by unfold code3; rw [h]

theorem code4_congr (b : BitVec 8) {r r' : ℕ} (h : r % 2 = r' % 2) : code4 b r = code4 b r' := by unfold code4; rw [h]

/-- The low half of a byte under the mask `0x77` is its low three-bit code. -/
theorem mask_low (b : BitVec 8) : (b &&& 119#8).setWidth 32 &&& 15#32 = b.setWidth 32 &&& 7#32 := by
  revert b; decide

/-- The high half of a byte under the mask `0x77` is its high three-bit code. -/
theorem mask_high (b : BitVec 8) : ((b &&& 119#8).setWidth 32).sshiftRight 4 = (b.setWidth 32).sshiftRight 4 &&& 7#32 := by
  revert b; decide

/-- Sums over `n` blocks of `m`, and over the whole range. -/
theorem sum_blocks (f : ℕ → EReal) (m : ℕ) : ∀ n, ∑ q ∈ Finset.range n, ∑ k ∈ Finset.range m, f (q * m + k) = ∑ r ∈ Finset.range (n * m), f r
  | 0 => by simp
  | n + 1 => by
    rw [Finset.sum_range_succ, sum_blocks f m n, Nat.succ_mul, Finset.sum_range_add]

/-- The even and the odd terms of a sum. -/
theorem sum_parity (f : ℕ → EReal) (n : ℕ) :
    ∑ h ∈ Finset.range n, f (2 * h) + ∑ h ∈ Finset.range n, f (2 * h + 1) = ∑ r ∈ Finset.range (n * 2), f r := by
  rw [← sum_blocks f 2 n, ← Finset.sum_add_distrib]
  refine Finset.sum_congr rfl fun h _ => ?_
  rw [Finset.sum_range_succ, Finset.sum_range_one, Nat.mul_comm h 2]; rfl

/-- 32 blocks of 256 rows against the even and the odd rows of 8192. -/
theorem sum_rows (f : ℕ → EReal) :
    ∑ q ∈ Finset.range 32, ∑ k ∈ Finset.range 256, f (q * 256 + k)
      = ∑ h ∈ Finset.range 4096, f (2 * h) + ∑ h ∈ Finset.range 4096, f (2 * h + 1) := by
  rw [sum_blocks f 256 32, sum_parity f 4096]

end Cert.Proof.Math

end
-- ==== Proof.Params.lean ====
/- One trip of the loops that fill a scratch buffer with group parameters, read element by element: the buffer's row `r`, lane `l` of tile
   `t` ends as `(code - zero) * scale` of group `r` and column `128 t + l`, in both halves of the pair. -/
module

public import proofs.«01_k».proof.Proof.Gen.KernelIdeal.Skeleton
public import proofs.«01_k».proof.Proof.Math
public import Idealize.ShloMosaic.Lib.Pointwise
public import Idealize.ShloMosaic.Lib.Writes
public import Idealize.ShloMosaic.Lib.Pipeline.Frame
public import Idealize.ShloMosaic.Lib.Pipeline.Value
public import Idealize.ShloMosaic.Lib.Pipeline.ValueKit.Tiles

@[expose] public section

set_option maxRecDepth 16384

noncomputable section

namespace Cert.Proof.Params

open Idealize.ShloMosaic Idealize.SL.Sem Cert.KernelIdeal Cert.KernelIdeal.Gen Cert.Proof.Math

/-- A load through a unit-stride rectangle of a whole buffer holding `X` reads `X` at the offset plus the index. -/
theorem load_apply {sig : RefSig} {κ : Kind} {sp : Space} {s : Shape} {e : EltTy} {M : Memref sig κ sp s e} (h : M.IsWhole)
    (X : s.Idx → Elt Ideal e) (off size : Fin s.rank → ℕ) (inb) (x : (Rect.unit off size inb).shape.Idx)
    (i : s.Idx) (hi : ∀ a, (i a : ℕ) = off a + x a) :
    View.readAt (Elt Ideal) M.view (Rect.unit off size inb).toLoadRect (h.unread X) x = X i := by
  rw [View.readAt_eq_ld, h.read_unread]
  exact View.ld_unit_apply_of X off size inb x i hi

/-- The 64 rows of codes a trip takes out of 32 rows of bytes. -/
theorem codes_apply (v : Vec Ideal S32x512 .i8) (r : Fin 64) (l : Fin 512) :
    (k0_pay10 (F := Ideal) v : S64x512.Idx → EReal) (ix2 r l)
      = code3 (v (ix2 ⟨r.val / 2, by omega⟩ l)) r.val := by
  unfold code3
  pointwise [k0_pay10]
  by_cases h : r.val % 2 = 1
  · rw [dif_neg (by omega), if_pos h, ← mask_high]; rfl
  · rw [dif_pos (by omega), if_neg h, ← mask_low]; rfl

/-- The parameters of the 16 groups of one block, whose codes are rows `o` to `o + 15`. -/
def group (codes : FVec Ideal S64x512 .f32) (zero scale : Vec Ideal S1x512 .f32) (o : ℕ) (h : S64x512.Slices ![o, 0] S16x512) :
    FVec Ideal S16x512 .bf16 :=
  truncf .bf16 (mulf (subf (extractStridedSlice S16x512 ![o, 0] codes h) (broadcastTo S16x512 zero broadcasts_S1x512_S16x512))
    (broadcastTo S16x512 scale broadcasts_S1x512_S16x512))

theorem group_apply (codes : FVec Ideal S64x512 .f32) (zero scale : Vec Ideal S1x512 .f32) (o : ℕ) (h : S64x512.Slices ![o, 0] S16x512)
    (ho : o + 16 ≤ 64) (r : Fin 16) (l : Fin 512) :
    (group codes zero scale o h (ix2 r l) : EReal)
      = ((codes (ix2 ⟨o + r.val, by omega⟩ l) : EReal) - zero (ix2 0 l)) * scale (ix2 0 l) := by
  pointwise [group]

/-- What a store puts into a scratch buffer: 128 columns of the parameters, the same number in both halves of the pair. -/
def tile (v : FVec Ideal S16x512 .bf16) (o : ℕ) (h : S16x512.Slices ![0, o] S16x128) : Vec Ideal S1x16x2x128 .bf16 :=
  interleaveRows S1x16x2x128
    (shapeCast S1x16x1x128 (shapeCast S1x16x128 (extractStridedSlice S16x128 ![0, o] v h) shapeCasts_S16x128_S1x16x128) shapeCasts_S1x16x128_S1x16x1x128)
    (shapeCast S1x16x1x128 (shapeCast S1x16x128 (extractStridedSlice S16x128 ![0, o] v h) shapeCasts_S16x128_S1x16x128) shapeCasts_S1x16x128_S1x16x1x128)
    bitcasts_S1x16x2x128_w16_S1x16x1x128_w32

theorem tile_apply (v : FVec Ideal S16x512 .bf16) (o : ℕ) (h : S16x512.Slices ![0, o] S16x128) (ho : o + 128 ≤ 512)
    (a : Fin 1) (r : Fin 16) (p : Fin 2) (l : Fin 128) :
    tile v o h (ix4 a r p l) = v (ix2 r ⟨o + l.val, by omega⟩) := by
  pointwise [tile]
  exact ite_self _

/-- The parameter of group `r` and column `l`: a three-bit code less its block's zero, times its block's scale. -/
def param (codes : Vec Ideal S256x512 .i8) (scale zero : Vec Ideal S32x512 .f32) (r l : Fin 512) : EReal :=
  (code3 (codes (ix2 ⟨r.val / 2, by omega⟩ l)) r.val - zero (ix2 ⟨r.val / 16, by omega⟩ l)) * scale (ix2 ⟨r.val / 16, by omega⟩ l)

/-- A scratch buffer holding every group's parameter. -/
def held (codes : Vec Ideal S256x512 .i8) (scale zero : Vec Ideal S32x512 .f32) : Vec Ideal S4x512x2x128 .bf16 := fun y =>
  param codes scale zero (y 1) ⟨128 * (y 0).val + (y 3).val, by have h0 : (y 0).val < 4 := (y 0).isLt; have h3 : (y 3).val < 128 := (y 3).isLt; omega⟩

theorem held_ix4 (codes : Vec Ideal S256x512 .i8) (scale zero : Vec Ideal S32x512 .f32) (t : Fin 4) (r : Fin 512) (p : Fin 2) (l : Fin 128) :
    held codes scale zero (ix4 t r p l) = param codes scale zero r ⟨128 * t.val + l.val, by omega⟩ := rfl

theorem slices_group (i : Fin 4) : S64x512.Slices ![16 * i.val, 0] S16x512 := by revert i; decide
theorem slices_tile (t : Fin 4) : S16x512.Slices ![0, 128 * t.val] S16x128 := by revert t; decide

/-- The piece a trip stores for block `i` of its four and column tile `t` is `held` there. -/
theorem piece_held (codes : Vec Ideal S256x512 .i8) (scale zero : Vec Ideal S32x512 .f32) (k : ℕ) (hk : k < 8) (i t : Fin 4)
    (bytes : Vec Ideal S32x512 .i8) (hb : ∀ (a : Fin 32) (l : Fin 512), bytes (ix2 a l) = codes (ix2 ⟨32 * k + a.val, by omega⟩ l))
    (zrow srow : Vec Ideal S1x512 .f32) (hz : ∀ l : Fin 512, zrow (ix2 0 l) = zero (ix2 ⟨4 * k + i.val, by omega⟩ l))
    (hs : ∀ l : Fin 512, srow (ix2 0 l) = scale (ix2 ⟨4 * k + i.val, by omega⟩ l))
    (off : Fin 4 → ℕ) (hoff : off = ![t.val, 64 * k + 16 * i.val, 0, 0]) (inb) (x : S1x16x2x128.Idx) :
    tile (group (k0_pay10 bytes) zrow srow (16 * i.val) (slices_group i)) (128 * t.val) (slices_tile t) x
      = held codes scale zero ((Rect.unit (s := S4x512x2x128) off S1x16x2x128.size inb).emb x) := by
  subst hoff
  idx_vars x
  rw [tile_apply _ _ _ (by omega), group_apply _ _ _ _ _ (by omega), codes_apply, hb, hz, hs]
  have e : (Rect.unit (s := S4x512x2x128) ![t.val, 64 * k + 16 * i.val, 0, 0] S1x16x2x128.size inb).emb (ix4 x0 x1 x2 x3)
      = ix4 t (⟨64 * k + 16 * i.val + x1.val, by omega⟩ : Fin 512) x2 x3 := by
    funext a
    refine Fin.ext ?_
    match a with
    | ⟨0, _⟩ => simp
    | ⟨1, _⟩ => simp
    | ⟨2, _⟩ => simp
    | ⟨3, _⟩ => simp
  rw [e, held_ix4]
  unfold param
  have e1 : (⟨32 * k + (16 * i.val + x1.val) / 2, by omega⟩ : Fin 256) = ⟨(64 * k + 16 * i.val + x1.val) / 2, by omega⟩ := Fin.ext (by simp only []; omega)
  have e2 : (⟨4 * k + i.val, by omega⟩ : Fin 32) = ⟨(64 * k + 16 * i.val + x1.val) / 16, by omega⟩ := Fin.ext (by simp only []; omega)
  rw [code3_congr _ (r' := 64 * k + 16 * i.val + x1.val) (by simp only []; omega), e1, e2]

/-- The store of block `i`, column tile `t`, in one trip. -/
def piece (bytes : Vec Ideal S32x512 .i8) (zrow srow : Fin 4 → Vec Ideal S1x512 .f32) (off : Fin 4 → Fin 4 → Fin 4 → ℕ)
    (inb : ∀ i t a, off i t a + S1x16x2x128.size a ≤ S4x512x2x128.size a) (i t : Fin 4) : View.Piece (Elt Ideal) S4x512x2x128 .bf16 :=
  ⟨Rect.unit (off i t) S1x16x2x128.size (inb i t),
    tile (group (k0_pay10 bytes) (zrow i) (srow i) (16 * i.val) (slices_group i)) (128 * t.val) (slices_tile t)⟩

/-- The sixteen stores of one trip, the last first: blocks 3 down to 0, of each the column tiles 3 down to 0. -/
def pieces (bytes : Vec Ideal S32x512 .i8) (zrow srow : Fin 4 → Vec Ideal S1x512 .f32) (off : Fin 4 → Fin 4 → Fin 4 → ℕ)
    (inb : ∀ i t a, off i t a + S1x16x2x128.size a ≤ S4x512x2x128.size a) : List (View.Piece (Elt Ideal) S4x512x2x128 .bf16) :=
  List.ofFn fun n : Fin 16 => piece bytes zrow srow off inb ⟨3 - n.val / 4, by omega⟩ ⟨3 - n.val % 4, by omega⟩

section Trip

variable {bytes : Vec Ideal S32x512 .i8} {zrow srow : Fin 4 → Vec Ideal S1x512 .f32} {off : Fin 4 → Fin 4 → Fin 4 → ℕ}
  {inb : ∀ i t a, off i t a + S1x16x2x128.size a ≤ S4x512x2x128.size a} {k : ℕ} (hk : k < 8)
  (hoff : ∀ i t : Fin 4, off i t = ![t.val, 64 * k + 16 * i.val, 0, 0])

include hk hoff

/-- Every store of trip `k` puts `held` where it stores. -/
theorem pieces_held {codes : Vec Ideal S256x512 .i8} {scale zero : Vec Ideal S32x512 .f32}
    (hb : ∀ (a : Fin 32) (l : Fin 512), bytes (ix2 a l) = codes (ix2 ⟨32 * k + a.val, by omega⟩ l))
    (hz : ∀ (i : Fin 4) (l : Fin 512), zrow i (ix2 0 l) = zero (ix2 ⟨4 * k + i.val, by omega⟩ l))
    (hs : ∀ (i : Fin 4) (l : Fin 512), srow i (ix2 0 l) = scale (ix2 ⟨4 * k + i.val, by omega⟩ l)) :
    ∀ p ∈ pieces bytes zrow srow off inb, ∀ x : p.1.shape.Idx, p.2 x = held codes scale zero (p.1.emb x) := by
  intro p hp
  obtain ⟨n, rfl⟩ := List.mem_ofFn.mp hp
  exact fun x => piece_held codes scale zero k hk _ _ bytes hb _ _ (hz _) (hs _) _ (hoff _ _) (inb _ _) x

/-- The stores of trip `k` reach rows `64 k` to `64 k + 63` of every column tile. -/
theorem pieces_cover (y : S4x512x2x128.Idx) (hy : (y 1).val / 64 = k) : ∃ p ∈ pieces bytes zrow srow off inb, y ∈ p.1.set := by
  idx_vars y
  have hy' : y1.val / 64 = k := hy
  have h1 := y1.isLt
  refine ⟨piece bytes zrow srow off inb ⟨(y1.val - 64 * k) / 16, by omega⟩ y0,
    List.mem_ofFn.mpr ⟨⟨4 * (3 - (y1.val - 64 * k) / 16) + (3 - y0.val), by omega⟩, ?_⟩, ?_⟩
  · congr 1
    · exact Fin.ext (by simp only []; omega)
    · exact Fin.ext (by simp only []; omega)
  refine (Rect.mem_set_unit (inb := inb _ _)).mpr ?_
  rw [hoff]
  intro a
  match a with
  | ⟨0, _⟩ => simp
  | ⟨1, _⟩ => simp; omega
  | ⟨2, _⟩ => simp; omega
  | ⟨3, _⟩ => simp

end Trip

/-- Eight trips, each storing its pieces over what the trips before it stored, leave the whole buffer holding `held`. -/
theorem filled {sig : RefSig} {κ : Kind} {sp : Space} {M : Memref sig κ sp S4x512x2x128 .bf16} (f : BufTy.Contents (Elt Ideal) M.view.ty)
    (codes : Vec Ideal S256x512 .i8) (scale zero : Vec Ideal S32x512 .f32) (pb : ℕ → List (View.Piece (Elt Ideal) S4x512x2x128 .bf16))
    (h0 : pb 0 = [])
    (hpb : ∀ k < 8, ∃ L, pb (k + 1) = L ++ pb k ∧ (∀ p ∈ L, ∀ x : p.1.shape.Idx, p.2 x = held codes scale zero (p.1.emb x))
      ∧ ∀ y : S4x512x2x128.Idx, (y 1).val / 64 = k → ∃ p ∈ L, y ∈ p.1.set) :
    M.view.read (Elt Ideal) (M.view.writes (Elt Ideal) f (pb 8)) = held codes scale zero := by
  have hall : ∀ n ≤ 8, (∀ p ∈ pb n, ∀ x : p.1.shape.Idx, p.2 x = held codes scale zero (p.1.emb x))
      ∧ ∀ y : S4x512x2x128.Idx, (y 1).val / 64 < n → ∃ p ∈ pb n, y ∈ p.1.set := by
    intro n
    induction n with
    | zero => intro _; rw [h0]; exact ⟨fun p hp => absurd hp List.not_mem_nil, fun y hy => absurd hy (by omega)⟩
    | succ k ih =>
      intro hk
      obtain ⟨L, e, hL, hc⟩ := hpb k hk
      obtain ⟨ih1, ih2⟩ := ih (by omega)
      rw [e]
      refine ⟨fun p hp => (List.mem_append.mp hp).elim (hL p) (ih1 p), fun y hy => ?_⟩
      by_cases hyk : (y 1).val / 64 = k
      · obtain ⟨p, hp, hy'⟩ := hc y hyk
        exact ⟨p, List.mem_append_left _ hp, hy'⟩
      · obtain ⟨p, hp, hy'⟩ := ih2 y (by omega)
        exact ⟨p, List.mem_append_right _ hp, hy'⟩
  funext y
  have h1 : (y 1).val < 512 := (y 1).isLt
  exact View.read_writes_apply_of_pieces _ _ _ _ (hall 8 le_rfl).1 y ((hall 8 le_rfl).2 y (by omega))

end Cert.Proof.Params

end
-- ==== Proof.Fill.lean ====
/- What the two loops that fill the scratch buffers leave there: the scale, and the zero, of every group and column. -/
module

public import proofs.«01_k».proof.Proof.Params
public import proofs.«01_k».proof.Proof.Gen.KernelIdeal.Loops

@[expose] public section

set_option maxRecDepth 16384

noncomputable section

namespace Cert.Proof.Fill

open Idealize.ShloMosaic Idealize.ShloMosaic.Tactic Idealize.SL.Sem Cert.KernelIdeal Cert.KernelIdeal.Gen Cert.Proof.Math Cert.Proof.Params

variable (c : Dev nD) (i : grid0.Coords)
  (arg1 : Memref sig .tc .vmem S128x8192 .bf16) (harg1 : arg1.IsWhole)
  (arg2 : Memref sig .tc .vmem S4096x512 .i8) (harg2 : arg2.IsWhole)
  (arg3 : Memref sig .tc .vmem S256x512 .i8) (harg3 : arg3.IsWhole)
  (arg4 : Memref sig .tc .vmem S256x512 .i8) (harg4 : arg4.IsWhole)
  (arg5 : Memref sig .tc .vmem S32x512 .f32) (harg5 : arg5.IsWhole)
  (arg6 : Memref sig .tc .vmem S32x512 .f32) (harg6 : arg6.IsWhole)
  (arg7 : Memref sig .tc .vmem S32x512 .f32) (harg7 : arg7.IsWhole)
  (arg8 : Memref sig .tc .vmem S32x512 .f32) (harg8 : arg8.IsWhole)
  (arg9 : Memref sig .tc .vmem S128x512 .f32) (harg9 : arg9.IsWhole)
  (arg10 : Memref sig .tc .vmem S4x512x2x128 .bf16) (harg10 : arg10.IsWhole)
  (arg11 : Memref sig .tc .vmem S4x512x2x128 .bf16) (harg11 : arg11.IsWhole)

/-- Where trip `k` stores block `i`, column tile `t`, of the scales. -/
def off1 (k : Fin k0_t1_loop.trips) (i t : Fin 4) : Fin 4 → ℕ :=
  (![k0_off3 k (BitVec.ofNat 32 (16 * i.val)), k0_off4 k (BitVec.ofNat 32 (16 * i.val)), k0_off5 k (BitVec.ofNat 32 (16 * i.val)),
    k0_off6 k (BitVec.ofNat 32 (16 * i.val))] : Fin 4 → Fin 4 → ℕ) t

theorem off1_eq (k : Fin k0_t1_loop.trips) (i t : Fin 4) : off1 k i t = ![t.val, 64 * k.val + 16 * i.val, 0, 0] :=
  match t with
  | ⟨0, _⟩ => k0_off3_eq k i
  | ⟨1, _⟩ => k0_off4_eq k i
  | ⟨2, _⟩ => k0_off5_eq k i
  | ⟨3, _⟩ => k0_off6_eq k i

theorem off1_inb (k : Fin k0_t1_loop.trips) (i t a : Fin 4) : off1 k i t a + S1x16x2x128.size a ≤ S4x512x2x128.size a :=
  match t with
  | ⟨0, _⟩ => k0_off3_inb k i a
  | ⟨1, _⟩ => k0_off4_inb k i a
  | ⟨2, _⟩ => k0_off5_inb k i a
  | ⟨3, _⟩ => k0_off6_inb k i a

/-- One trip's stores are the sixteen pieces, of the bytes and the rows that the trip loads. -/
theorem trip1_eq (X : BufTy.Contents (Elt Ideal) arg3.view.ty) (S : BufTy.Contents (Elt Ideal) arg5.view.ty)
    (Z : BufTy.Contents (Elt Ideal) arg6.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 X S Z k
      = pieces (View.readAt (Elt Ideal) arg3.view (Rect.unit (s := S256x512) (k0_off1 k) S32x512.size (k0_off1_inb k)).toLoadRect X)
        (fun j => View.readAt (Elt Ideal) arg6.view (Rect.unit (s := S32x512) (k0_off2 k (BitVec.ofNat 32 j.val)) S1x512.size (k0_off2_inb k j)).toLoadRect Z)
        (fun j => View.readAt (Elt Ideal) arg5.view (Rect.unit (s := S32x512) (k0_off2 k (BitVec.ofNat 32 j.val)) S1x512.size (k0_off2_inb k j)).toLoadRect S)
        (off1 k) (off1_inb k) := by
  unfold tripL_k0_t1 trip_k0_t1
  sl_unfold_run_names
  rfl

/-- After its loop the buffer holds the scales of every group. -/
theorem fill1 (f : BufTy.Contents (Elt Ideal) arg10.view.ty) (x : Vec Ideal S256x512 .i8) (s z : Vec Ideal S32x512 .f32) :
    arg10.view.read (Elt Ideal) (arg10.view.writes (Elt Ideal) f (pb_k0_t1 (F := Ideal) Variants.none c none i arg1 harg1 arg2 harg2 arg3 harg3 arg4 harg4 arg5 harg5 arg6 harg6 arg7 harg7 arg8 harg8 arg9 harg9 arg10 harg10 arg11 harg11
      (harg3.unread x) (harg5.unread s) (harg6.unread z) (Scf.trips k0_t1_loop.lb k0_t1_loop.ub k0_t1_loop.st)))
      = held x s z := by
  have h8 : Scf.trips k0_t1_loop.lb k0_t1_loop.ub k0_t1_loop.st = 8 := by decide +kernel
  rw [h8]
  refine filled f x s z _ rfl fun k hk => ?_
  have hk' : k < k0_t1_loop.trips := by rw [show k0_t1_loop.trips = 8 from h8]; exact hk
  refine ⟨_, pb_k0_t1_succ Variants.none c none i arg1 harg1 arg2 harg2 arg3 harg3 arg4 harg4 arg5 harg5 arg6 harg6 arg7 harg7 arg8 harg8 arg9 harg9 arg10 harg10 arg11 harg11 _ _ _ ⟨k, hk'⟩, ?_, ?_⟩
  · rw [trip1_eq]
    refine pieces_held hk (off1_eq ⟨k, hk'⟩) (fun a l => ?_) (fun j l => ?_) (fun j l => ?_)
    · refine load_apply harg3 x _ _ _ _ _ fun a => ?_
      refine Eq.trans ?_ (congrArg (· + _) (congrFun (k0_off1_eq ⟨k, hk'⟩) a).symm)
      match a with
      | ⟨0, _⟩ => simp
      | ⟨1, _⟩ => simp
    · refine load_apply harg6 z _ _ _ _ _ fun a => ?_
      refine Eq.trans ?_ (congrArg (· + _) (congrFun (k0_off2_eq ⟨k, hk'⟩ j) a).symm)
      match a with
      | ⟨0, _⟩ => simp
      | ⟨1, _⟩ => simp
    · refine load_apply harg5 s _ _ _ _ _ fun a => ?_
      refine Eq.trans ?_ (congrArg (· + _) (congrFun (k0_off2_eq ⟨k, hk'⟩ j) a).symm)
      match a with
      | ⟨0, _⟩ => simp
      | ⟨1, _⟩ => simp
  · rw [trip1_eq]
    exact pieces_cover hk (off1_eq ⟨k, hk'⟩)

/-- Where trip `k` stores block `i`, column tile `t`, of the zeros. -/
def off2 (k : Fin k0_t2_loop.trips) (i t : Fin 4) : Fin 4 → ℕ :=
  (![k0_off9 k (BitVec.ofNat 32 (16 * i.val)), k0_off10 k (BitVec.ofNat 32 (16 * i.val)), k0_off11 k (BitVec.ofNat 32 (16 * i.val)),
    k0_off12 k (BitVec.ofNat 32 (16 * i.val))] : Fin 4 → Fin 4 → ℕ) t

theorem off2_eq (k : Fin k0_t2_loop.trips) (i t : Fin 4) : off2 k i t = ![t.val, 64 * k.val + 16 * i.val, 0, 0] :=
  match t with
  | ⟨0, _⟩ => k0_off9_eq k i
  | ⟨1, _⟩ => k0_off10_eq k i
  | ⟨2, _⟩ => k0_off11_eq k i
  | ⟨3, _⟩ => k0_off12_eq k i

theorem off2_inb (k : Fin k0_t2_loop.trips) (i t a : Fin 4) : off2 k i t a + S1x16x2x128.size a ≤ S4x512x2x128.size a :=
  match t with
  | ⟨0, _⟩ => k0_off9_inb k i a
  | ⟨1, _⟩ => k0_off10_inb k i a
  | ⟨2, _⟩ => k0_off11_inb k i a
  | ⟨3, _⟩ => k0_off12_inb k i a

/-- One trip's stores are the sixteen pieces, of the bytes and the rows that the trip loads. -/
theorem trip2_eq (X : BufTy.Contents (Elt Ideal) arg4.view.ty) (S : BufTy.Contents (Elt Ideal) arg7.view.ty)
    (Z : BufTy.Contents (Elt Ideal) arg8.view.ty) (k : Fin k0_t2_loop.trips) :
    tripL_k0_t2 (F := Ideal) Variants.none c none i arg1 harg1 arg2 harg2 arg3 harg3 arg4 harg4 arg5 harg5 arg6 harg6 arg7 harg7 arg8 harg8 arg9 harg9 arg10 harg10 arg11 harg11 X S Z k
      = pieces (View.readAt (Elt Ideal) arg4.view (Rect.unit (s := S256x512) (k0_off7 k) S32x512.size (k0_off7_inb k)).toLoadRect X)
        (fun j => View.readAt (Elt Ideal) arg8.view (Rect.unit (s := S32x512) (k0_off8 k (BitVec.ofNat 32 j.val)) S1x512.size (k0_off8_inb k j)).toLoadRect Z)
        (fun j => View.readAt (Elt Ideal) arg7.view (Rect.unit (s := S32x512) (k0_off8 k (BitVec.ofNat 32 j.val)) S1x512.size (k0_off8_inb k j)).toLoadRect S)
        (off2 k) (off2_inb k) := by
  unfold tripL_k0_t2 trip_k0_t2
  sl_unfold_run_names
  rfl

/-- After its loop the buffer holds the zeros of every group. -/
theorem fill2 (f : BufTy.Contents (Elt Ideal) arg11.view.ty) (x : Vec Ideal S256x512 .i8) (s z : Vec Ideal S32x512 .f32) :
    arg11.view.read (Elt Ideal) (arg11.view.writes (Elt Ideal) f (pb_k0_t2 (F := Ideal) Variants.none c none i arg1 harg1 arg2 harg2 arg3 harg3 arg4 harg4 arg5 harg5 arg6 harg6 arg7 harg7 arg8 harg8 arg9 harg9 arg10 harg10 arg11 harg11
      (harg4.unread x) (harg7.unread s) (harg8.unread z) (Scf.trips k0_t2_loop.lb k0_t2_loop.ub k0_t2_loop.st)))
      = held x s z := by
  have h8 : Scf.trips k0_t2_loop.lb k0_t2_loop.ub k0_t2_loop.st = 8 := by decide +kernel
  rw [h8]
  refine filled f x s z _ rfl fun k hk => ?_
  have hk' : k < k0_t2_loop.trips := by rw [show k0_t2_loop.trips = 8 from h8]; exact hk
  refine ⟨_, pb_k0_t2_succ Variants.none c none i arg1 harg1 arg2 harg2 arg3 harg3 arg4 harg4 arg5 harg5 arg6 harg6 arg7 harg7 arg8 harg8 arg9 harg9 arg10 harg10 arg11 harg11 _ _ _ ⟨k, hk'⟩, ?_, ?_⟩
  · rw [trip2_eq]
    refine pieces_held hk (off2_eq ⟨k, hk'⟩) (fun a l => ?_) (fun j l => ?_) (fun j l => ?_)
    · refine load_apply harg4 x _ _ _ _ _ fun a => ?_
      refine Eq.trans ?_ (congrArg (· + _) (congrFun (k0_off7_eq ⟨k, hk'⟩) a).symm)
      match a with
      | ⟨0, _⟩ => simp
      | ⟨1, _⟩ => simp
    · refine load_apply harg8 z _ _ _ _ _ fun a => ?_
      refine Eq.trans ?_ (congrArg (· + _) (congrFun (k0_off8_eq ⟨k, hk'⟩ j) a).symm)
      match a with
      | ⟨0, _⟩ => simp
      | ⟨1, _⟩ => simp
    · refine load_apply harg7 s _ _ _ _ _ fun a => ?_
      refine Eq.trans ?_ (congrArg (· + _) (congrFun (k0_off8_eq ⟨k, hk'⟩ j) a).symm)
      match a with
      | ⟨0, _⟩ => simp
      | ⟨1, _⟩ => simp
  · rw [trip2_eq]
    exact pieces_cover hk (off2_eq ⟨k, hk'⟩)

end Cert.Proof.Fill

end
-- ==== Proof.Tile.lean ====
/- One trip of the loop of products, and the sum after all of them. A trip expands 256 rows of the weight, each code less its group's zero and
   times its group's scale, and adds their product with 256 columns of the input. -/
module

public import proofs.«01_k».proof.Proof.Fill

@[expose] public section

set_option maxRecDepth 16384

noncomputable section

namespace Cert.Proof.Tile

open Idealize.ShloMosaic Idealize.ShloMosaic.Tactic Idealize.SL.Sem Cert.KernelIdeal Cert.KernelIdeal.Gen Cert.Proof.Math Cert.Proof.Params

/-- The first of a pair of equal rows, repeated over the sixteen rows of a group. -/
def pairRow (raw : Vec Ideal S1x1x2x128 .bf16) : FVec Ideal S16x128 .bf16 :=
  broadcastTo S16x128 (shapeCast S1x128 (extractStridedSlice S1x128 ![0, 0] (interleaveRows S2x128
    (shapeCast S1x128 (shapeCast S1x1x128 (rowsOfParity 0 S1x1x1x128 raw bitcasts_S1x1x2x128_w16_S1x1x1x128_w32) shapeCasts_S1x1x1x128_S1x1x128) shapeCasts_S1x1x128_S1x128)
    (shapeCast S1x128 (shapeCast S1x1x128 (rowsOfParity 1 S1x1x1x128 raw bitcasts_S1x1x2x128_w16_S1x1x1x128_w32) shapeCasts_S1x1x1x128_S1x1x128) shapeCasts_S1x1x128_S1x128)
    bitcasts_S2x128_w16_S1x128_w32) slices_S2x128_o0_0_S1x128) shapeCasts_S1x128_S1x128) broadcasts_S1x128_S16x128

theorem pairRow_apply (raw : Vec Ideal S1x1x2x128 .bf16) (r : Fin 16) (l : Fin 128) : pairRow raw (ix2 r l) = raw (ix4 0 0 0 l) := by
  pointwise [pairRow]

/-- The 256 rows of codes in 128 rows of bytes. -/
theorem nibbles_apply (v : Vec Ideal S128x128 .i8) (r : Fin 256) (l : Fin 128) :
    (k0_pay88 (F := Ideal) v (ix2 r l) : EReal) = code4 (v (ix2 ⟨r.val / 2, by omega⟩ l)) r.val := by
  unfold code4
  pointwise [k0_pay88]
  by_cases h : r.val % 2 = 1
  · rw [dif_neg (by omega), if_pos h]; rfl
  · rw [dif_pos (by omega), if_neg h]; rfl

theorem slices_rows (g : Fin 16) : S256x128.Slices ![16 * g.val, 0] S16x128 := by revert g; decide

/-- The weight's rows of group `g` of sixteen. -/
def rows (codes : FVec Ideal S256x128 .bf16) (z s : Vec Ideal S1x1x2x128 .bf16) (g : Fin 16) : FVec Ideal S16x128 .bf16 :=
  mulf (subf (extractStridedSlice S16x128 ![16 * g.val, 0] codes (slices_rows g)) (pairRow z)) (pairRow s)

theorem rows_apply (codes : FVec Ideal S256x128 .bf16) (z s : Vec Ideal S1x1x2x128 .bf16) (g r : Fin 16) (l : Fin 128) :
    (rows codes z s g (ix2 r l) : EReal)
      = ((codes (ix2 ⟨16 * g.val + r.val, by omega⟩ l) : EReal) - z (ix4 0 0 0 l)) * s (ix4 0 0 0 l) := by
  rw [← pairRow_apply z r l, ← pairRow_apply s r l]
  pointwise [rows]

/-- The weight's 256 rows in one column tile. -/
def cols (bytes : Vec Ideal S128x128 .i8) (z s : Fin 16 → Vec Ideal S1x1x2x128 .bf16) : FVec Ideal S256x128 .bf16 :=
  concatenate S256x128 0 (List.ofFn fun g : Fin 16 => ⟨S16x128, rows (k0_pay88 bytes) (z g) (s g) g⟩)
    concatenates_S16x128_S16x128_S16x128_S16x128_S16x128_S16x128_S16x128_S16x128_S16x128_S16x128_S16x128_S16x128_S16x128_S16x128_S16x128_S16x128_S256x128_d0

theorem cols_apply (bytes : Vec Ideal S128x128 .i8) (z s : Fin 16 → Vec Ideal S1x1x2x128 .bf16) (r : Fin 256) (l : Fin 128) :
    (cols bytes z s (ix2 r l) : EReal)
      = (code4 (bytes (ix2 ⟨r.val / 2, by omega⟩ l)) r.val - z ⟨r.val / 16, by omega⟩ (ix4 0 0 0 l)) * s ⟨r.val / 16, by omega⟩ (ix4 0 0 0 l) := by
  have e : cols bytes z s (ix2 r l)
      = rows (k0_pay88 bytes) (z ⟨r.val / 16, by omega⟩) (s ⟨r.val / 16, by omega⟩) ⟨r.val / 16, by omega⟩ (ix2 ⟨r.val % 16, by omega⟩ l) := by
    refine concatenate_ofFn_apply (t := S256x128) (s₁ := S16x128) 0 (fun g : Fin 16 => rows (k0_pay88 bytes) (z g) (s g) g) _ rfl 16 rfl (ix2 r l) ⟨r.val / 16, by omega⟩ rfl _ rfl ?_
    intro b hb
    match b with
    | ⟨0, _⟩ => exact absurd rfl hb
    | ⟨1, _⟩ => rfl
  rw [e, rows_apply, nibbles_apply]
  have e1 : (16 * (r.val / 16) + r.val % 16) = r.val := Nat.div_add_mod _ _
  simp only [e1]

/-- The running sum after a trip. -/
def step (acc : FVec Ideal S128x512 .f32) (bytes : Fin 4 → Vec Ideal S128x128 .i8) (z s : Fin 4 → Fin 16 → Vec Ideal S1x1x2x128 .bf16)
    (x : Vec Ideal S128x256 .bf16) : FVec Ideal S128x512 .f32 :=
  addf acc (matmul (φ₁ := .bf16) dot_S128x256_S256x512_S128x512_1_0_0_1_n_n none (shapeCast S128x256 x shapeCasts_S128x256_S128x256)
    (concatenate S256x512 1 (List.ofFn fun t : Fin 4 => ⟨S256x128, cols (bytes t) (z t) (s t)⟩) concatenates_S256x128_S256x128_S256x128_S256x128_S256x512_d1)
    (constant S128x512 .f32 0x00000000#32))

theorem step_apply (acc : FVec Ideal S128x512 .f32) (bytes : Fin 4 → Vec Ideal S128x128 .i8) (z s : Fin 4 → Fin 16 → Vec Ideal S1x1x2x128 .bf16)
    (x : Vec Ideal S128x256 .bf16) (a : Fin 128) (l : Fin 512) :
    (step acc bytes z s x (ix2 a l) : EReal)
      = acc (ix2 a l) + ∑ k : Fin 256, (x (ix2 a k) : EReal)
        * cols (bytes ⟨l.val / 128, by omega⟩) (z ⟨l.val / 128, by omega⟩) (s ⟨l.val / 128, by omega⟩) (ix2 k ⟨l.val % 128, by omega⟩) := by
  have e : ∀ k : Fin 256, concatenate S256x512 1 (List.ofFn fun t : Fin 4 => (⟨S256x128, cols (bytes t) (z t) (s t)⟩ : (s : Shape) × (s.Idx → Ideal .bf16)))
      concatenates_S256x128_S256x128_S256x128_S256x128_S256x512_d1 (ix2 k l)
      = cols (bytes ⟨l.val / 128, by omega⟩) (z ⟨l.val / 128, by omega⟩) (s ⟨l.val / 128, by omega⟩) (ix2 k ⟨l.val % 128, by omega⟩) := by
    intro k
    refine concatenate_ofFn_apply (t := S256x512) (s₁ := S256x128) 1 (fun t : Fin 4 => cols (bytes t) (z t) (s t)) _ rfl 128 rfl (ix2 k l) ⟨l.val / 128, by omega⟩ rfl _ rfl ?_
    intro b hb
    match b with
    | ⟨0, _⟩ => rfl
    | ⟨1, _⟩ => exact absurd rfl hb
  simp only [← e]
  unfold step
  generalize concatenate S256x512 1 (List.ofFn fun t : Fin 4 => (⟨S256x128, cols (bytes t) (z t) (s t)⟩ : (s : Shape) × (s.Idx → Ideal .bf16)))
      concatenates_S256x128_S256x128_S256x128_S256x128_S256x512_d1 = W
  pointwise

/-- The product of one row of the weight with one row of the input, in a column of the output: zero past the last row. -/
def term (x : Vec Ideal S128x8192 .bf16) (w : Vec Ideal S4096x512 .i8) (cs cz : Vec Ideal S256x512 .i8) (ss sz zs zz : Vec Ideal S32x512 .f32)
    (a : Fin 128) (l : Fin 512) (n : ℕ) : EReal :=
  if h : n < 8192 then
    (x (ix2 a ⟨n, h⟩) : EReal) * ((code4 (w (ix2 ⟨n / 2, by omega⟩ l)) n - param cz zs zz ⟨n / 16, by omega⟩ l) * param cs ss sz ⟨n / 16, by omega⟩ l)
  else 0

/-- Where trip `k` loads the bytes of column tile `t`. -/
def offW (k : Fin k0_t3_loop.trips) (t : Fin 4) : Fin 2 → ℕ := (![k0_off13 k, k0_off15 k, k0_off17 k, k0_off19 k] : Fin 4 → Fin 2 → ℕ) t

theorem offW_eq (k : Fin k0_t3_loop.trips) (t : Fin 4) : offW k t = ![128 * k.val, 128 * t.val] :=
  match t with
  | ⟨0, _⟩ => k0_off13_eq k
  | ⟨1, _⟩ => k0_off15_eq k
  | ⟨2, _⟩ => k0_off17_eq k
  | ⟨3, _⟩ => k0_off19_eq k

theorem offW_inb (k : Fin k0_t3_loop.trips) (t : Fin 4) (a : Fin 2) : offW k t a + S128x128.size a ≤ S4096x512.size a :=
  match t with
  | ⟨0, _⟩ => k0_off13_inb k a
  | ⟨1, _⟩ => k0_off15_inb k a
  | ⟨2, _⟩ => k0_off17_inb k a
  | ⟨3, _⟩ => k0_off19_inb k a

/-- Where trip `k` loads the pair of rows of group `g` and column tile `t` from a scratch buffer. -/
def offP (k : Fin k0_t3_loop.trips) (t : Fin 4) (g : Fin 16) : Fin 4 → ℕ :=
  (![k0_off14 k (BitVec.ofNat 32 g.val), k0_off16 k (BitVec.ofNat 32 g.val), k0_off18 k (BitVec.ofNat 32 g.val),
    k0_off20 k (BitVec.ofNat 32 g.val)] : Fin 4 → Fin 4 → ℕ) t

theorem offP_eq (k : Fin k0_t3_loop.trips) (t : Fin 4) (g : Fin 16) : offP k t g = ![t.val, 16 * k.val + g.val, 0, 0] :=
  match t with
  | ⟨0, _⟩ => k0_off14_eq k g
  | ⟨1, _⟩ => k0_off16_eq k g
  | ⟨2, _⟩ => k0_off18_eq k g
  | ⟨3, _⟩ => k0_off20_eq k g

theorem offP_inb (k : Fin k0_t3_loop.trips) (t : Fin 4) (g : Fin 16) (a : Fin 4) : offP k t g a + S1x1x2x128.size a ≤ S4x512x2x128.size a :=
  match t with
  | ⟨0, _⟩ => k0_off14_inb k g a
  | ⟨1, _⟩ => k0_off16_inb k g a
  | ⟨2, _⟩ => k0_off18_inb k g a
  | ⟨3, _⟩ => k0_off20_inb k g a

variable (c : Dev nD) (i : grid0.Coords)
  (arg1 : Memref sig .tc .vmem S128x8192 .bf16) (harg1 : arg1.IsWhole)
  (arg2 : Memref sig .tc .vmem S4096x512 .i8) (harg2 : arg2.IsWhole)
  (arg3 : Memref sig .tc .vmem S256x512 .i8) (harg3 : arg3.IsWhole)
  (arg4 : Memref sig .tc .vmem S256x512 .i8) (harg4 : arg4.IsWhole)
  (arg5 : Memref sig .tc .vmem S32x512 .f32) (harg5 : arg5.IsWhole)
  (arg6 : Memref sig .tc .vmem S32x512 .f32) (harg6 : arg6.IsWhole)
  (arg7 : Memref sig .tc .vmem S32x512 .f32) (harg7 : arg7.IsWhole)
  (arg8 : Memref sig .tc .vmem S32x512 .f32) (harg8 : arg8.IsWhole)
  (arg9 : Memref sig .tc .vmem S128x512 .f32) (harg9 : arg9.IsWhole)
  (arg10 : Memref sig .tc .vmem S4x512x2x128 .bf16) (harg10 : arg10.IsWhole)
  (arg11 : Memref sig .tc .vmem S4x512x2x128 .bf16) (harg11 : arg11.IsWhole)

/-- One trip is `step` of what the trip loads. -/
theorem trip3_eq (X : BufTy.Contents (Elt Ideal) arg1.view.ty) (W : BufTy.Contents (Elt Ideal) arg2.view.ty)
    (S : BufTy.Contents (Elt Ideal) arg10.view.ty) (Z : BufTy.Contents (Elt Ideal) arg11.view.ty) (k : Fin k0_t3_loop.trips) (acc : FVec Ideal S128x512 .f32) :
    tripR_k0_t3 (F := Ideal) Variants.none c none i arg1 harg1 arg2 harg2 arg3 harg3 arg4 harg4 arg5 harg5 arg6 harg6 arg7 harg7 arg8 harg8 arg9 harg9 arg10 harg10 arg11 harg11 X W S Z k acc
      = step acc (fun t => View.readAt (Elt Ideal) arg2.view (Rect.unit (s := S4096x512) (offW k t) S128x128.size (offW_inb k t)).toLoadRect W)
        (fun t g => View.readAt (Elt Ideal) arg11.view (Rect.unit (s := S4x512x2x128) (offP k t g) S1x1x2x128.size (offP_inb k t g)).toLoadRect Z)
        (fun t g => View.readAt (Elt Ideal) arg10.view (Rect.unit (s := S4x512x2x128) (offP k t g) S1x1x2x128.size (offP_inb k t g)).toLoadRect S)
        (View.readAt (Elt Ideal) arg1.view (Rect.unit (s := S128x8192) (k0_off21 k) S128x256.size (k0_off21_inb k)).toLoadRect X) := by
  unfold tripR_k0_t3 trip_k0_t3
  sl_unfold_run_names
  rfl

/-- One trip adds 256 terms. -/
theorem trip3_apply (x : Vec Ideal S128x8192 .bf16) (w : Vec Ideal S4096x512 .i8) (cs cz : Vec Ideal S256x512 .i8) (ss sz zs zz : Vec Ideal S32x512 .f32)
    (k : Fin k0_t3_loop.trips) (hk : k.val < 32) (acc : FVec Ideal S128x512 .f32) (a : Fin 128) (l : Fin 512) :
    (tripR_k0_t3 (F := Ideal) Variants.none c none i arg1 harg1 arg2 harg2 arg3 harg3 arg4 harg4 arg5 harg5 arg6 harg6 arg7 harg7 arg8 harg8 arg9 harg9 arg10 harg10 arg11 harg11 (harg1.unread x) (harg2.unread w)
      (harg10.unread (held cs ss sz)) (harg11.unread (held cz zs zz)) k acc (ix2 a l) : EReal)
      = acc (ix2 a l) + ∑ m ∈ Finset.range 256, term x w cs cz ss sz zs zz a l (k.val * 256 + m) := by
  rw [trip3_eq, step_apply, Finset.sum_range]
  refine congrArg _ (Finset.sum_congr rfl fun m _ => ?_)
  have hm := m.isLt
  have hl := l.isLt
  rw [cols_apply, term, dif_pos (by omega)]
  have hx := load_apply harg1 x (k0_off21 k) S128x256.size (k0_off21_inb k) (ix2 a m) (ix2 a ⟨k.val * 256 + m.val, by omega⟩) fun b =>
    Eq.trans (by match b with
      | ⟨0, _⟩ => simp
      | ⟨1, _⟩ => simp [Nat.mul_comm]) (congrArg (· + _) (congrFun (k0_off21_eq k) b).symm)
  have hw := load_apply harg2 w (offW k ⟨l.val / 128, by omega⟩) S128x128.size (offW_inb k ⟨l.val / 128, by omega⟩)
    (ix2 ⟨m.val / 2, by omega⟩ ⟨l.val % 128, by omega⟩) (ix2 ⟨(k.val * 256 + m.val) / 2, by omega⟩ l) fun b =>
    Eq.trans (by match b with
      | ⟨0, _⟩ => simp; omega
      | ⟨1, _⟩ => simp; omega) (congrArg (· + _) (congrFun (offW_eq k ⟨l.val / 128, by omega⟩) b).symm)
  have hp : ∀ (M : Memref sig .tc .vmem S4x512x2x128 .bf16) (h : M.IsWhole) (codes : Vec Ideal S256x512 .i8) (scale zero : Vec Ideal S32x512 .f32),
      View.readAt (Elt Ideal) M.view (Rect.unit (s := S4x512x2x128) (offP k ⟨l.val / 128, by omega⟩ ⟨m.val / 16, by omega⟩) S1x1x2x128.size
        (offP_inb k ⟨l.val / 128, by omega⟩ ⟨m.val / 16, by omega⟩)).toLoadRect (h.unread (held codes scale zero)) (ix4 0 0 0 ⟨l.val % 128, by omega⟩)
      = param codes scale zero ⟨(k.val * 256 + m.val) / 16, by omega⟩ l := by
    intro M h codes scale zero
    refine (load_apply h _ _ _ _ _ (ix4 ⟨l.val / 128, by omega⟩ ⟨16 * k.val + m.val / 16, by omega⟩ 0 ⟨l.val % 128, by omega⟩) fun b =>
      Eq.trans (by match b with
        | ⟨0, _⟩ => simp
        | ⟨1, _⟩ => simp
        | ⟨2, _⟩ => simp
        | ⟨3, _⟩ => simp) (congrArg (· + _) (congrFun (offP_eq k ⟨l.val / 128, by omega⟩ ⟨m.val / 16, by omega⟩) b).symm)).trans ?_
    rw [held_ix4]
    have e1 : (⟨16 * k.val + m.val / 16, by omega⟩ : Fin 512) = ⟨(k.val * 256 + m.val) / 16, by omega⟩ := Fin.ext (by simp only []; omega)
    have e2 : (⟨128 * (l.val / 128) + l.val % 128, by omega⟩ : Fin 512) = l := Fin.ext (by simp only []; omega)
    rw [e1, e2]
  rw [hx, hw, hp arg11 harg11, hp arg10 harg10, code4_congr _ (r' := k.val * 256 + m.val) (by omega)]

/-- What a block of the output holds: at row `a`, column `l` the sum of all 8192 terms. -/
def outVal (x : Vec Ideal S128x8192 .bf16) (w : Vec Ideal S4096x512 .i8) (cs cz : Vec Ideal S256x512 .i8) (ss sz zs zz : Vec Ideal S32x512 .f32) :
    Vec Ideal S128x512 .f32 := fun y =>
  ∑ q ∈ Finset.range 32, ∑ m ∈ Finset.range 256, term x w cs cz ss sz zs zz (y 0) (y 1) (q * 256 + m)

/-- The running sum after the last trip. -/
theorem total (x : Vec Ideal S128x8192 .bf16) (w : Vec Ideal S4096x512 .i8) (cs cz : Vec Ideal S256x512 .i8) (ss sz zs zz : Vec Ideal S32x512 .f32) :
    st_k0_t3 (F := Ideal) Variants.none c none i arg1 harg1 arg2 harg2 arg3 harg3 arg4 harg4 arg5 harg5 arg6 harg6 arg7 harg7 arg8 harg8 arg9 harg9 arg10 harg10 arg11 harg11 (harg1.unread x) (harg2.unread w)
      (harg10.unread (held cs ss sz)) (harg11.unread (held cz zs zz)) k0_pay7 (Scf.trips k0_t3_loop.lb k0_t3_loop.ub k0_t3_loop.st)
      = outVal x w cs cz ss sz zs zz := by
  have h32 : Scf.trips k0_t3_loop.lb k0_t3_loop.ub k0_t3_loop.st = 32 := by decide +kernel
  have hn : ∀ n ≤ 32, ∀ (a : Fin 128) (l : Fin 512),
      (st_k0_t3 (F := Ideal) Variants.none c none i arg1 harg1 arg2 harg2 arg3 harg3 arg4 harg4 arg5 harg5 arg6 harg6 arg7 harg7 arg8 harg8 arg9 harg9 arg10 harg10 arg11 harg11 (harg1.unread x) (harg2.unread w)
        (harg10.unread (held cs ss sz)) (harg11.unread (held cz zs zz)) k0_pay7 n (ix2 a l) : EReal)
      = ∑ q ∈ Finset.range n, ∑ m ∈ Finset.range 256, term x w cs cz ss sz zs zz a l (q * 256 + m) := by
    intro n
    induction n with
    | zero =>
      intro _ a l
      rw [Finset.sum_range_zero]
      show (k0_pay7 (F := Ideal) (ix2 a l) : EReal) = 0
      pointwise [k0_pay7]
    | succ n ih =>
      intro hn a l
      have hk : n < k0_t3_loop.trips := by rw [show k0_t3_loop.trips = 32 from h32]; omega
      have e := st_k0_t3_succ (F := Ideal) Variants.none c none i arg1 harg1 arg2 harg2 arg3 harg3 arg4 harg4 arg5 harg5 arg6 harg6 arg7 harg7 arg8 harg8 arg9 harg9 arg10 harg10 arg11 harg11 (harg1.unread x) (harg2.unread w)
        (harg10.unread (held cs ss sz)) (harg11.unread (held cz zs zz)) k0_pay7 ⟨n, hk⟩
      refine (congrFun e _).trans ((trip3_apply _ _ _ _ _ _ _ _ _ _ _ _ _ _ _ _ _ _ _ _ _ _ _ _ x w cs cz ss sz zs zz ⟨n, hk⟩ (by simp only []; omega) _ a l).trans ?_)
      rw [Finset.sum_range_succ _ n]
      exact congrArg (· + _) (ih (by omega) a l)
  rw [h32]
  funext y
  idx_vars y
  exact hn 32 le_rfl _ _

end Cert.Proof.Tile

end
-- ==== Proof.Body.lean ====
/- What one grid point of the kernel does, as a triple: from the eight input blocks it leaves in the output block the sums `outVal` of them,
   whatever the scratch buffers held before. -/
module

public import proofs.«01_k».proof.Proof.Tile
public import proofs.«01_k».proof.Proof.Gen.KernelIdeal.Frame.Runs

@[expose] public section

set_option maxRecDepth 16384

noncomputable section

namespace Cert.Proof.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Proof.Params Cert.Proof.Fill Cert.Proof.Tile

local notation "𝕄" => MT nD τ sig Unit (Elt Ideal) ℕ (UR sig nD τ) ℕ

variable (c : Dev nD) (i : grid0.Coords)
  (arg1 : Memref sig .tc .vmem S128x8192 .bf16) (harg1 : arg1.IsWhole)
  (arg2 : Memref sig .tc .vmem S4096x512 .i8) (harg2 : arg2.IsWhole)
  (arg3 : Memref sig .tc .vmem S256x512 .i8) (harg3 : arg3.IsWhole)
  (arg4 : Memref sig .tc .vmem S256x512 .i8) (harg4 : arg4.IsWhole)
  (arg5 : Memref sig .tc .vmem S32x512 .f32) (harg5 : arg5.IsWhole)
  (arg6 : Memref sig .tc .vmem S32x512 .f32) (harg6 : arg6.IsWhole)
  (arg7 : Memref sig .tc .vmem S32x512 .f32) (harg7 : arg7.IsWhole)
  (arg8 : Memref sig .tc .vmem S32x512 .f32) (harg8 : arg8.IsWhole)
  (arg9 : Memref sig .tc .vmem S128x512 .f32) (harg9 : arg9.IsWhole)
  (arg10 : Memref sig .tc .vmem S4x512x2x128 .bf16) (harg10 : arg10.IsWhole)
  (arg11 : Memref sig .tc .vmem S4x512x2x128 .bf16) (harg11 : arg11.IsWhole)

  (x0 : Vec Ideal S128x8192 .bf16) (x1 : Vec Ideal S4096x512 .i8) (x2 x3 : Vec Ideal S256x512 .i8) (x4 x5 x6 x7 : Vec Ideal S32x512 .f32)

/-- The loop of products over the scratch buffers as the first two loops leave them is the sums `outVal`. -/
theorem total_filled (f0 : BufTy.Contents (Elt Ideal) arg10.view.ty) (f1 : BufTy.Contents (Elt Ideal) arg11.view.ty) :
    st_k0_t3 (F := Ideal) Variants.none c none i arg1 harg1 arg2 harg2 arg3 harg3 arg4 harg4 arg5 harg5 arg6 harg6 arg7 harg7 arg8 harg8 arg9 harg9 arg10 harg10 arg11 harg11 (harg1.unread x0) (harg2.unread x1)
      (arg10.view.writes (Elt Ideal) f0 (pb_k0_t1 (F := Ideal) Variants.none c none i arg1 harg1 arg2 harg2 arg3 harg3 arg4 harg4 arg5 harg5 arg6 harg6 arg7 harg7 arg8 harg8 arg9 harg9 arg10 harg10 arg11 harg11
        (harg3.unread x2) (harg5.unread x4) (harg6.unread x5) (Scf.trips k0_t1_loop.lb k0_t1_loop.ub k0_t1_loop.st)))
      (arg11.view.writes (Elt Ideal) f1 (pb_k0_t2 (F := Ideal) Variants.none c none i arg1 harg1 arg2 harg2 arg3 harg3 arg4 harg4 arg5 harg5 arg6 harg6 arg7 harg7 arg8 harg8 arg9 harg9 arg10 harg10 arg11 harg11
        (harg4.unread x3) (harg7.unread x6) (harg8.unread x7) (Scf.trips k0_t2_loop.lb k0_t2_loop.ub k0_t2_loop.st)))
      k0_pay7 (Scf.trips k0_t3_loop.lb k0_t3_loop.ub k0_t3_loop.st)
      = outVal x0 x1 x2 x3 x4 x5 x6 x7 := by
  rw [harg10.eq_unread (fill1 c i arg1 harg1 arg2 harg2 arg3 harg3 arg4 harg4 arg5 harg5 arg6 harg6 arg7 harg7 arg8 harg8 arg9 harg9 arg10 harg10 arg11 harg11 f0 x2 x4 x5), harg11.eq_unread (fill2 c i arg1 harg1 arg2 harg2 arg3 harg3 arg4 harg4 arg5 harg5 arg6 harg6 arg7 harg7 arg8 harg8 arg9 harg9 arg10 harg10 arg11 harg11 f1 x3 x6 x7)]
  exact total c i arg1 harg1 arg2 harg2 arg3 harg3 arg4 harg4 arg5 harg5 arg6 harg6 arg7 harg7 arg8 harg8 arg9 harg9 arg10 harg10 arg11 harg11 x0 x1 x2 x3 x4 x5 x6 x7

/-- A whole block stored at once reads as what was stored. -/
theorem read_store (f : BufTy.Contents (Elt Ideal) arg9.view.ty) (v : Vec Ideal S128x512 .f32) (inb) :
    arg9.view.read (Elt Ideal) (arg9.view.writes (Elt Ideal) f [⟨Rect.unit (s := S128x512) ![0, 0] S128x512.size inb, v⟩]) = v := by
  have e : ∀ x : S128x512.Idx, (Rect.unit (s := S128x512) ![0, 0] S128x512.size inb).emb x = x := by
    intro x
    funext a
    refine Fin.ext ?_
    match a with
    | ⟨0, _⟩ => simp
    | ⟨1, _⟩ => simp
  funext y
  refine View.read_writes_apply_of_pieces _ _ v _ (fun p hp x => ?_) y ⟨_, List.mem_singleton.mpr rfl, ?_⟩
  · obtain rfl := List.mem_singleton.mp hp
    exact congrArg v (e x).symm
  · refine (Rect.mem_set_unit (inb := inb)).mpr fun a => ?_
    match a with
    | ⟨0, _⟩ => exact ⟨Nat.zero_le _, lt_of_lt_of_le (y 0).isLt (by simp)⟩
    | ⟨1, _⟩ => exact ⟨Nat.zero_le _, lt_of_lt_of_le (y 1).isLt (by simp)⟩

set_option maxHeartbeats 1000000 in
/-- The body's triple. -/
theorem body_run (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outVal x0 x1 x2 x3 x4 x5 x6 x7) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_dense i arg1 harg1 arg2 harg2 arg3 harg3 arg4 harg4 arg5 harg5 arg6 harg6 arg7 harg7 arg8 harg8 arg9 harg9 arg10 harg10 arg11 harg11) K := by
  simp only [cc0_dense_eq_skeleton]; unfold cc0_dense_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact (read_store arg9 _ _ _).trans (total_filled c i arg1 harg1 arg2 harg2 arg3 harg3 arg4 harg4 arg5 harg5 arg6 harg6 arg7 harg7 arg8 harg8 arg9 harg9 arg10 harg10 arg11 harg11 x0 x1 x2 x3 x4 x5 x6 x7 _ _)
  isplitl [HS0]
  · iexists _, _; isplitr; swap; · iexact HS0
    ipureintro; rfl
  iexists _, _; isplitr; swap; · iexact HS1
  ipureintro; rfl

end Cert.Proof.Body

end
-- ==== Proof.Run.lean ====
/- The kernel's run over the extended reals: every execution ends, leaves the arguments as they were and every semaphore counter at zero, and the
   output array holds, block by block, the sums `outVal` of the grid points' input blocks. -/
module

public import proofs.«01_k».proof.Proof.Body
public import Idealize.ShloMosaic.Lib.Claim

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Proof.Tile Cert.Proof.Body

local notation "𝕄" => MT nD τ sig Unit (Elt Ideal) ℕ (UR sig nD τ) ℕ

variable (m : (ℓ : Loc nD τ sig) → Buf (Elt Ideal) ℓ) (ρ : Dev nD → PrngReg)

/-- What the output's block holds after the body at point `t`. -/
def outsAt0 (c : Dev nD) (t : Fin cfg0.N) : Vec Ideal S128x512 .f32 :=
  outVal (iblk m c 0 t) (iblk m c 1 t) (iblk m c 2 t) (iblk m c 3 t) (iblk m c 4 t) (iblk m c 5 t) (iblk m c 6 t) (iblk m c 7 t)

/-! ## The pipeline's proof data -/

/-- The proof data of the one pipeline on core `c`: the arrays as the region finds them (`V`); after the body at
    point `t` each input's buffer at its block and the outputs' at `outsAt0`; the invariant that of
    a pipeline without communication (`Pipeline.ΦA`); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- Every execution ends as `run_main` says, with every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- From any memory with zero counters, every weakly fair execution of @main on the
    TensorCores terminates, and every final state has every array of the pipeline at what the library computes from the
    proof data and every other unscoped buffer as the region found it (`Pipeline.FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame of the idealized kernel: every execution ends, with the arguments unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v1) = (dats m 0 c).arrAt 8 cfg0.N :=
  (h c).1 8

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- Every execution ends with the output array at what the pipeline's blocks leave in it, and the arguments unchanged. -/
theorem run_blocks : θ_run defs (onTc (τ := τ) (main (F := Ideal))) ⟨m, fun _ => 0, ρ⟩ fun r => ∀ c : Dev nD,
      r.2.mem ((c : Thread nD τ).loc main_v1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.Proof.Run

end
-- ==== Proof.Spec.lean ====
/- What both programs compute, one output number at a time, from one row of the input and one column of each other argument. -/
module

public import proofs.«01_k».proof.Proof.Math

@[expose] public section

noncomputable section

namespace Cert.Proof.Spec

open Idealize.ShloMosaic Cert.Proof.Math

/-- The parameter of group `r` in one column: a three-bit code less its block's zero, times its block's scale. -/
def par (codes : Fin 256 → BitVec 8) (scale zero : Fin 32 → EReal) (r : Fin 512) : EReal :=
  (code3 (codes ⟨r.val / 2, by omega⟩) r.val - zero ⟨r.val / 16, by omega⟩) * scale ⟨r.val / 16, by omega⟩

/-- One product: a number of the input's row with the dequantised weight of row `n`. -/
def prod (x : Fin 8192 → EReal) (w : Fin 4096 → BitVec 8) (cs cz : Fin 256 → BitVec 8) (ss sz zs zz : Fin 32 → EReal) (n : Fin 8192) : EReal :=
  x n * ((code4 (w ⟨n.val / 2, by omega⟩) n.val - par cz zs zz ⟨n.val / 16, by omega⟩) * par cs ss sz ⟨n.val / 16, by omega⟩)

/-- The sum of all the products: those of the even rows, then those of the odd rows. -/
def dot (x : Fin 8192 → EReal) (w : Fin 4096 → BitVec 8) (cs cz : Fin 256 → BitVec 8) (ss sz zs zz : Fin 32 → EReal) : EReal :=
  ∑ h : Fin 4096, prod x w cs cz ss sz zs zz ⟨2 * h.val, by omega⟩ + ∑ h : Fin 4096, prod x w cs cz ss sz zs zz ⟨2 * h.val + 1, by omega⟩

/-- The same sum taken 256 rows at a time. -/
theorem dot_eq (x : Fin 8192 → EReal) (w : Fin 4096 → BitVec 8) (cs cz : Fin 256 → BitVec 8) (ss sz zs zz : Fin 32 → EReal) :
    ∑ q ∈ Finset.range 32, ∑ m ∈ Finset.range 256, (if h : q * 256 + m < 8192 then prod x w cs cz ss sz zs zz ⟨q * 256 + m, h⟩ else 0)
      = dot x w cs cz ss sz zs zz := by
  refine (sum_rows (fun n => if h : n < 8192 then prod x w cs cz ss sz zs zz ⟨n, h⟩ else 0)).trans (congrArg₂ (· + ·) ?_ ?_)
  · exact (Finset.sum_range _).trans (Finset.sum_congr rfl fun h _ => dif_pos (by omega))
  · exact (Finset.sum_range _).trans (Finset.sum_congr rfl fun h _ => dif_pos (by omega))

end Cert.Proof.Spec

end
-- ==== Proof.Kernel.lean ====
/- The kernel's output array, one number at a time, as the sum of products over its arguments. -/
module

public import proofs.«01_k».proof.Proof.Run
public import proofs.«01_k».proof.Proof.Spec
public import Idealize.ShloMosaic.Lib.Pipeline.ValueKit

@[expose] public section

set_option maxRecDepth 16384

noncomputable section

namespace Cert.Proof.Kernel

open Idealize.ShloMosaic Idealize.ShloMosaic.TcCoe Idealize.ShloMosaic.Tactic Idealize.SL.Sem
open Cert.KernelIdeal Cert.KernelIdeal.Gen Cert.Proof.Tile Cert.Proof.Run

variable (m : (ℓ : Loc nD τ sig) → Buf (Elt Ideal) ℓ)

/-- The output array: at row `a`, column `j` the sum of products of row `a` of the input with column `j` of the weight. -/
def out (c : Dev nD) : Vec Ideal S128x8192 .f32 := fun i =>
  Spec.dot (fun k => m ((c : Thread nD τ).loc main_arg0) (ix3 (i 0) 0 k)) (fun k => m ((c : Thread nD τ).loc main_arg1) (ix2 k (i 1)))
    (fun k => m ((c : Thread nD τ).loc main_arg2) (ix2 k (i 1))) (fun k => m ((c : Thread nD τ).loc main_arg3) (ix2 k (i 1)))
    (fun k => m ((c : Thread nD τ).loc main_arg4) (ix2 k (i 1))) (fun k => m ((c : Thread nD τ).loc main_arg5) (ix2 k (i 1)))
    (fun k => m ((c : Thread nD τ).loc main_arg6) (ix2 k (i 1))) (fun k => m ((c : Thread nD τ).loc main_arg7) (ix2 k (i 1)))

/-- A block's number, from one row of the input and one column of each other block. -/
theorem outVal_apply (x : Vec Ideal S128x8192 .bf16) (w : Vec Ideal S4096x512 .i8) (cs cz : Vec Ideal S256x512 .i8)
    (ss sz zs zz : Vec Ideal S32x512 .f32) (y : S128x512.Idx) :
    outVal x w cs cz ss sz zs zz y = Spec.dot (fun k => x (ix2 (y 0) k)) (fun k => w (ix2 k (y 1))) (fun k => cs (ix2 k (y 1)))
      (fun k => cz (ix2 k (y 1))) (fun k => ss (ix2 k (y 1))) (fun k => sz (ix2 k (y 1))) (fun k => zs (ix2 k (y 1))) (fun k => zz (ix2 k (y 1))) :=
  Spec.dot_eq (fun k => x (ix2 (y 0) k)) (fun k => w (ix2 k (y 1))) (fun k => cs (ix2 k (y 1)))
    (fun k => cz (ix2 k (y 1))) (fun k => ss (ix2 k (y 1))) (fun k => sz (ix2 k (y 1))) (fun k => zs (ix2 k (y 1))) (fun k => zz (ix2 k (y 1)))

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)
theorem index6 : ∀ t : Fin cfg0.N, win0_6.index t = ![0, t.val] := (by decide +kernel : ∀ t : Fin grid0.N, _)
theorem index7 : ∀ t : Fin cfg0.N, win0_7.index t = ![0, t.val] := (by decide +kernel : ∀ t : Fin grid0.N, _)
theorem index8 : ∀ t : Fin cfg0.N, win0_8.index t = ![0, t.val] := (by decide +kernel : ∀ t : Fin grid0.N, _)

theorem squeeze_apply (x : Vec Ideal S128x1x8192 .bf16) (a : Fin 128) (k : Fin 8192) :
    (shapeCast S128x8192 x shapeCasts_S128x1x8192_S128x8192 : Vec Ideal S128x8192 .bf16) (ix2 a k) = x (ix3 a 0 k) := by pointwise

/-- The input as the grid finds it: the argument without its axis of length one. -/
theorem input_apply (c : Dev nD) (a : Fin 128) (k : Fin 8192) :
    V m c main_v0 (ix2 a k) = m ((c : Thread nD τ).loc main_arg0) (ix3 a 0 k) :=
  squeeze_apply (m ((c : Thread nD τ).loc main_arg0)) a k

theorem blk0 (c : Dev nD) (t : Fin cfg0.N) (a : Fin 128) (k : Fin 8192) :
    iblk m c 0 t (ix2 a k) = m ((c : Thread nD τ).loc main_arg0) (ix3 a 0 k) := by
  rw [← input_apply m c]
  blk_simp [iblk]
  congr 1
  blk_ext [index0]

theorem blk1 (c : Dev nD) (t : Fin cfg0.N) (k : Fin 4096) (l : Fin 512) (j : Fin 8192) (hj : j.val = t.val * 512 + l.val) :
    iblk m c 1 t (ix2 k l) = m ((c : Thread nD τ).loc main_arg1) (ix2 k j) := by
  rw [← V_main_arg1 m c]
  blk_simp [iblk]
  congr 1
  blk_ext [index1, hj]

theorem blk2 (c : Dev nD) (t : Fin cfg0.N) (k : Fin 256) (l : Fin 512) (j : Fin 8192) (hj : j.val = t.val * 512 + l.val) :
    iblk m c 2 t (ix2 k l) = m ((c : Thread nD τ).loc main_arg2) (ix2 k j) := by
  rw [← V_main_arg2 m c]
  blk_simp [iblk]
  congr 1
  blk_ext [index2, hj]

theorem blk3 (c : Dev nD) (t : Fin cfg0.N) (k : Fin 256) (l : Fin 512) (j : Fin 8192) (hj : j.val = t.val * 512 + l.val) :
    iblk m c 3 t (ix2 k l) = m ((c : Thread nD τ).loc main_arg3) (ix2 k j) := by
  rw [← V_main_arg3 m c]
  blk_simp [iblk]
  congr 1
  blk_ext [index3, hj]

theorem blk4 (c : Dev nD) (t : Fin cfg0.N) (k : Fin 32) (l : Fin 512) (j : Fin 8192) (hj : j.val = t.val * 512 + l.val) :
    iblk m c 4 t (ix2 k l) = m ((c : Thread nD τ).loc main_arg4) (ix2 k j) := by
  rw [← V_main_arg4 m c]
  blk_simp [iblk]
  congr 1
  blk_ext [index4, hj]

theorem blk5 (c : Dev nD) (t : Fin cfg0.N) (k : Fin 32) (l : Fin 512) (j : Fin 8192) (hj : j.val = t.val * 512 + l.val) :
    iblk m c 5 t (ix2 k l) = m ((c : Thread nD τ).loc main_arg5) (ix2 k j) := by
  rw [← V_main_arg5 m c]
  blk_simp [iblk]
  congr 1
  blk_ext [index5, hj]

theorem blk6 (c : Dev nD) (t : Fin cfg0.N) (k : Fin 32) (l : Fin 512) (j : Fin 8192) (hj : j.val = t.val * 512 + l.val) :
    iblk m c 6 t (ix2 k l) = m ((c : Thread nD τ).loc main_arg6) (ix2 k j) := by
  rw [← V_main_arg6 m c]
  blk_simp [iblk]
  congr 1
  blk_ext [index6, hj]

theorem blk7 (c : Dev nD) (t : Fin cfg0.N) (k : Fin 32) (l : Fin 512) (j : Fin 8192) (hj : j.val = t.val * 512 + l.val) :
    iblk m c 7 t (ix2 k l) = m ((c : Thread nD τ).loc main_arg7) (ix2 k j) := by
  rw [← V_main_arg7 m c]
  blk_simp [iblk]
  congr 1
  blk_ext [index7, hj]

/-- A number of point `t`'s block: the one of the output array at the same row, `512 * t` columns on. -/
theorem block_apply (c : Dev nD) (t : Fin cfg0.N) (y : S128x512.Idx) (j : Fin 8192) (hj : j.val = t.val * 512 + (y 1).val) :
    outsAt0 m c t y = out m c (ix2 (y 0) j) := by
  unfold outsAt0
  rw [outVal_apply]
  unfold out
  congr 1 <;> funext k
  · exact blk0 m c t (y 0) k
  · exact blk1 m c t k (y 1) j hj
  · exact blk2 m c t k (y 1) j hj
  · exact blk3 m c t k (y 1) j hj
  · exact blk4 m c t k (y 1) j hj
  · exact blk5 m c t k (y 1) j hj
  · exact blk6 m c t k (y 1) j hj
  · exact blk7 m c t k (y 1) j hj

/-- The blocks tile the output array, so it ends holding `out`. -/
theorem final (c : Dev nD) : (dats m 0 c).arrAt 8 cfg0.N = out m c := by
  refine (dats m 0 c).arrAt_eq_of_covers 8 _ (by decide +kernel) fun t hf y => ?_
  blk_simp
  rw [after0_8]
  have ht : t.val < 16 := lt_of_lt_of_eq t.isLt N_0
  have hy : (y 1).val < 512 := (y 1).isLt
  refine (block_apply m c t y ⟨t.val * 512 + (y 1).val, by omega⟩ rfl).trans (congrArg (out m c) ?_)
  blk_ext [index8]

end Cert.Proof.Kernel

end
-- ==== Proof.Ref.lean ====
/- The reference's result, one number at a time, as the sum of products over its arguments. -/
module

public import proofs.«01_k».proof.Proof.Gen.ReferenceIdeal.Run
public import proofs.«01_k».proof.Proof.Spec

@[expose] public section

set_option maxRecDepth 16384

noncomputable section

namespace Cert.Proof.Ref

open Idealize.ShloMosaic Idealize.ShloMosaic.TcCoe Idealize.ShloMosaic.Tactic Idealize.SL.Sem
open Cert.ReferenceIdeal Cert.ReferenceIdeal.Gen Cert.ReferenceIdeal.Value Cert.Proof.Math

/-- The low three-bit codes of the bytes. -/
def low (v : Vec Ideal S256x8192 .i8) : Vec Ideal S256x8192 .i32 :=
  andi (extui 32 v natLt_8_32) (broadcastInDim S256x8192 ![] bcast_S_S256x8192 (constantI S_ 32 7#32))

/-- The high three-bit codes of the bytes. -/
def high (v : Vec Ideal S256x8192 .i8) : Vec Ideal S256x8192 .i32 :=
  andi (Host.shrsi (extui 32 v natLt_8_32) (broadcastInDim S256x8192 ![] bcast_S_S256x8192 (constantI S_ 32 4#32))) (broadcastInDim S256x8192 ![] bcast_S_S256x8192 (constantI S_ 32 7#32))

/-- The codes of all groups, two per byte. -/
def codes (v : Vec Ideal S256x8192 .i8) : Vec Ideal S256x2x8192 .i32 :=
  concatenate S256x2x8192 1 [⟨S256x1x8192, broadcastInDim S256x1x8192 ![0, 2] bcast_S256x8192_S256x1x8192_0_2 (low v)⟩, ⟨S256x1x8192, broadcastInDim S256x1x8192 ![0, 2] bcast_S256x8192_S256x1x8192_0_2 (high v)⟩] concatenates_S256x1x8192_S256x1x8192_S256x2x8192_d1

/-- The parameters of all groups. -/
def params (v : Vec Ideal S256x8192 .i8) (zero scale : Vec Ideal S32x8192 .f32) : Vec Ideal S512x8192 .bf16 :=
  truncf (F := Ideal) .bf16 (shapeCast S512x8192 (mulf (F := Ideal) (subf (F := Ideal) (shapeCast S32x16x8192 (sitofp (F := Ideal) .f32 (codes v)) shapeCasts_S256x2x8192_S32x16x8192) (broadcastInDim S32x16x8192 ![0, 1, 2] bcast_S32x1x8192_S32x16x8192_0_1_2 (broadcastInDim S32x1x8192 ![0, 2] bcast_S32x8192_S32x1x8192_0_2 zero))) (broadcastInDim S32x16x8192 ![0, 1, 2] bcast_S32x1x8192_S32x16x8192_0_1_2 (broadcastInDim S32x1x8192 ![0, 2] bcast_S32x8192_S32x1x8192_0_2 scale))) shapeCasts_S32x16x8192_S512x8192) bitsLt_bf16_f32

/-- Weight rows of one parity from their codes. -/
def weight (q : Vec Ideal S4096x8192 .i32) (zero scale : Vec Ideal S512x8192 .bf16) : Vec Ideal S4096x8192 .bf16 :=
  shapeCast S4096x8192 (mulf (F := Ideal) (subf (F := Ideal) (shapeCast S512x8x8192 (sitofp (F := Ideal) .bf16 q) shapeCasts_S4096x8192_S512x8x8192) (broadcastInDim S512x8x8192 ![0, 1, 2] bcast_S512x1x8192_S512x8x8192_0_1_2 (broadcastInDim S512x1x8192 ![0, 2] bcast_S512x8192_S512x1x8192_0_2 zero))) (broadcastInDim S512x8x8192 ![0, 1, 2] bcast_S512x1x8192_S512x8x8192_0_1_2 (broadcastInDim S512x1x8192 ![0, 2] bcast_S512x8192_S512x1x8192_0_2 scale))) shapeCasts_S512x8x8192_S4096x8192

theorem low_apply (v : Vec Ideal S256x8192 .i8) (h : Fin 256) (j : Fin 8192) : low v (ix2 h j) = (v (ix2 h j)).setWidth 32 &&& 7#32 := by
  unfold low; pointwise; rfl

theorem high_apply (v : Vec Ideal S256x8192 .i8) (h : Fin 256) (j : Fin 8192) : high v (ix2 h j) = ((v (ix2 h j)).setWidth 32).sshiftRight 4 &&& 7#32 := by
  unfold high; pointwise; rfl

theorem codes_apply (v : Vec Ideal S256x8192 .i8) (h : Fin 256) (p : Fin 2) (j : Fin 8192) :
    codes v (ix3 h p j) = if p.val = 1 then ((v (ix2 h j)).setWidth 32).sshiftRight 4 &&& 7#32 else (v (ix2 h j)).setWidth 32 &&& 7#32 := by
  rw [← low_apply, ← high_apply]
  unfold codes
  generalize low v = a
  generalize high v = b
  fin_cases p <;> pointwise

theorem params_apply (v : Vec Ideal S256x8192 .i8) (zero scale : Vec Ideal S32x8192 .f32) (r : Fin 512) (j : Fin 8192) :
    (params v zero scale (ix2 r j) : EReal) = Spec.par (fun k => v (ix2 k j)) (fun k => scale (ix2 k j)) (fun k => zero (ix2 k j)) r := by
  unfold params
  pointwise
  rw [codes_apply]
  have h1 : r.val / 16 * 8 + r.val % 16 / 2 = r.val / 2 := by omega
  have h2 : r.val % 16 % 2 = r.val % 2 := by omega
  simp only [h1, h2]
  rfl

theorem weight_apply (q : Vec Ideal S4096x8192 .i32) (zero scale : Vec Ideal S512x8192 .bf16) (h : Fin 4096) (j : Fin 8192) :
    (weight q zero scale (ix2 h j) : EReal) = (num (q (ix2 h j)) - zero (ix2 ⟨h.val / 8, by omega⟩ j)) * scale (ix2 ⟨h.val / 8, by omega⟩ j) := by
  unfold weight
  pointwise
  rfl

/-- The result before its last reshape dropped the axis of length one, from the two weights. -/
def whole (x : Vec Ideal S128x1x8192 .bf16) (wl wh : Vec Ideal S4096x8192 .bf16) : Vec Ideal S128x8192 .f32 :=
  shapeCast S128x8192 (addf (F := Ideal) (φ := .f32) (Host.dotGeneral (F := Ideal) (φ₁ := .bf16) (φ₂ := .bf16) dot_S128x1x4096_S4096x8192_S128x1x8192_2_0_01_1_n_n none (Host.slice S128x1x4096 ![0, 0, 0] ![1, 1, 2] x slicesBy_S128x1x8192_S128x1x4096_0s1_0s1_0s2) wl)
    (Host.dotGeneral (F := Ideal) (φ₁ := .bf16) (φ₂ := .bf16) dot_S128x1x4096_S4096x8192_S128x1x8192_2_0_01_1_n_n none (Host.slice S128x1x4096 ![0, 0, 1] ![1, 1, 2] x slicesBy_S128x1x8192_S128x1x4096_0s1_0s1_1s2) wh)) shapeCasts_S128x1x8192_S128x8192

theorem whole_apply (x : Vec Ideal S128x1x8192 .bf16) (wl wh : Vec Ideal S4096x8192 .bf16) (a : Fin 128) (j : Fin 8192) :
    (whole x wl wh (ix2 a j) : EReal) = ∑ h : Fin 4096, (x (ix3 a 0 ⟨2 * h.val, by omega⟩) : EReal) * wl (ix2 h j)
      + ∑ h : Fin 4096, (x (ix3 a 0 ⟨2 * h.val + 1, by omega⟩) : EReal) * wh (ix2 h j) := by
  unfold whole
  pointwise
  simp only [Nat.add_comm 1]

/-- The low and the high four-bit codes of the bytes. -/
def lowW (v : Vec Ideal S4096x8192 .i8) : Vec Ideal S4096x8192 .i32 :=
  andi (extui 32 v natLt_8_32) (broadcastInDim S4096x8192 ![] bcast_S_S4096x8192 (constantI S_ 32 15#32))

def highW (v : Vec Ideal S4096x8192 .i8) : Vec Ideal S4096x8192 .i32 :=
  Host.shrsi (extui 32 v natLt_8_32) (broadcastInDim S4096x8192 ![] bcast_S_S4096x8192 (constantI S_ 32 4#32))

theorem lowW_apply (v : Vec Ideal S4096x8192 .i8) (h : Fin 4096) (j : Fin 8192) : lowW v (ix2 h j) = (v (ix2 h j)).setWidth 32 &&& 15#32 := by
  unfold lowW; pointwise; rfl

theorem highW_apply (v : Vec Ideal S4096x8192 .i8) (h : Fin 4096) (j : Fin 8192) : highW v (ix2 h j) = ((v (ix2 h j)).setWidth 32).sshiftRight 4 := by
  unfold highW; pointwise; rfl

theorem dot_apply (x : Vec Ideal S128x1x8192 .bf16) (w : Vec Ideal S4096x8192 .i8) (cs cz : Vec Ideal S256x8192 .i8)
    (ss sz zs zz : Vec Ideal S32x8192 .f32) (a : Fin 128) (j : Fin 8192) :
    (whole x (weight (lowW w) (params cz zz zs) (params cs sz ss)) (weight (highW w) (params cz zz zs) (params cs sz ss)) (ix2 a j) : EReal)
      = Spec.dot (fun k => x (ix3 a 0 k)) (fun k => w (ix2 k j)) (fun k => cs (ix2 k j)) (fun k => cz (ix2 k j))
        (fun k => ss (ix2 k j)) (fun k => sz (ix2 k j)) (fun k => zs (ix2 k j)) (fun k => zz (ix2 k j)) := by
  rw [whole_apply]
  refine congrArg₂ (· + ·) (Finset.sum_congr rfl fun h _ => ?_) (Finset.sum_congr rfl fun h _ => ?_)
  · rw [weight_apply, params_apply, params_apply, lowW_apply]
    have e1 : 2 * h.val / 16 = h.val / 8 := by omega
    have e2 : 2 * h.val / 2 = h.val := by omega
    have e3 : ¬ 2 * h.val % 2 = 1 := by omega
    simp only [Spec.prod, e1, e2, code4, if_neg e3]
  · rw [weight_apply, params_apply, params_apply, highW_apply]
    have e1 : (2 * h.val + 1) / 16 = h.val / 8 := by omega
    have e2 : (2 * h.val + 1) / 2 = h.val := by omega
    have e3 : (2 * h.val + 1) % 2 = 1 := by omega
    simp only [Spec.prod, e1, e2, code4, if_pos e3]

variable (m : (ℓ : Loc nD τ sig) → Buf (Elt Ideal) ℓ)

/-- The reference's result is made of these pieces. -/
theorem res_eq (c : Dev nD) : res_out0 (F := Ideal) m c =
    whole (m ((c : Thread nD τ).loc main_arg0))
      (weight (lowW (m ((c : Thread nD τ).loc main_arg1)))
        (params (m ((c : Thread nD τ).loc main_arg3)) (m ((c : Thread nD τ).loc main_arg7)) (m ((c : Thread nD τ).loc main_arg6)))
        (params (m ((c : Thread nD τ).loc main_arg2)) (m ((c : Thread nD τ).loc main_arg5)) (m ((c : Thread nD τ).loc main_arg4))))
      (weight (highW (m ((c : Thread nD τ).loc main_arg1)))
        (params (m ((c : Thread nD τ).loc main_arg3)) (m ((c : Thread nD τ).loc main_arg7)) (m ((c : Thread nD τ).loc main_arg6)))
        (params (m ((c : Thread nD τ).loc main_arg2)) (m ((c : Thread nD τ).loc main_arg5)) (m ((c : Thread nD τ).loc main_arg4)))) := rfl

/-- The reference's result: at row `a`, column `j` the sum of products of row `a` of the input with column `j` of the weight. -/
theorem res_apply (c : Dev nD) (a : Fin 128) (j : Fin 8192) : (res_out0 (F := Ideal) m c (ix2 a j) : EReal) =
    Spec.dot (fun k => m ((c : Thread nD τ).loc main_arg0) (ix3 a 0 k)) (fun k => m ((c : Thread nD τ).loc main_arg1) (ix2 k j))
      (fun k => m ((c : Thread nD τ).loc main_arg2) (ix2 k j)) (fun k => m ((c : Thread nD τ).loc main_arg3) (ix2 k j))
      (fun k => m ((c : Thread nD τ).loc main_arg4) (ix2 k j)) (fun k => m ((c : Thread nD τ).loc main_arg5) (ix2 k j))
      (fun k => m ((c : Thread nD τ).loc main_arg6) (ix2 k j)) (fun k => m ((c : Thread nD τ).loc main_arg7) (ix2 k j)) :=
  (congrFun (res_eq m c) (ix2 a j)).trans (dot_apply _ _ _ _ _ _ _ _ a j)

end Cert.Proof.Ref

end
-- ==== Proof.lean ====
/- The five claims: the kernel, its idealized form and the idealized reference each end, leave their arguments unchanged and every semaphore
   counter at zero; the idealization keeps what the kernel means; and over the extended reals kernel and reference leave the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.Kernel
public import proofs.«01_k».proof.Proof.Ref
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- Each replacement of the idealization is one of the rules it cites. -/
theorem preserved : Cert.preserves_Kernel_KernelIdeal :=
  open Cert.KernelIdeal IdealRules.bf16_pair in
  ⟨bufferStatement S4x512x2x128 S4x512x1x128, packStatement S16x512, statement S1x16x2x128 S1x16x1x128, statement S1x1x2x128 S1x1x1x128,
    statement S2x128 S1x128⟩

/-- Kernel and reference leave the same result: both hold, at row `a` and column `j`, the sum of the same products. -/
theorem algebraic : Cert.algebraic_KernelIdeal_ReferenceIdeal := by
  intro m g m' g' _ hargs
  refine ⟨fun c => Kernel.out m c, (θ_run _ _ _).mono (fun r h c => ⟨((h c).1).trans (Kernel.final m c), (h c).2⟩) (Run.run_blocks m g),
    (θ_run _ _ _).mono (fun r h c => ⟨((h c).1).trans ?_, (h c).2⟩) (Cert.ReferenceIdeal.Value.run (F := Ideal) m' g')⟩
  obtain ⟨h0, h1, h2, h3, h4, h5, h6, h7⟩ := hargs c
  funext i
  obtain ⟨a, j, rfl⟩ : ∃ (a : Fin 128) (j : Fin 8192), i = ix2 a j := ⟨i 0, i 1, by ext k; fin_cases k <;> rfl⟩
  refine (Ref.res_apply m' c a j).trans ?_
  rw [h0, h1, h2, h3, h4, h5, h6, h7]
  rfl

theorem claim : Cert.Claim := ⟨Cert.Kernel.Gen.facts, Cert.KernelIdeal.Gen.facts, Cert.ReferenceIdeal.Gen.facts,
  fun m ρ _ => Frame.frame m ρ,
  fun m ρ _ => Run.frame m ρ,
  fun m ρ _ => (θ_run _ _ _).mono (fun r h => ⟨fun c => (h c).2, Idealize.ShloMosaic.sem_eq_zero_of_no_sems (by decide) r.2⟩)
    (Cert.ReferenceIdeal.Value.run (F := Ideal) m ρ),
  preserved,
  algebraic⟩

end Cert.Proof

end
